-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S16x32x512 : Shape := ⟨3, ![16, 32, 512]⟩
abbrev S16 : Shape := ⟨1, ![16]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S16x32x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c32_i32 : BitVec 32 := 32#32
  let v210 : BitVec 32 := Scalar.muli v209 c32_i32
  let c0_i32_150 : BitVec 32 := 0#32
  ![v210.toNat, 0]
def k0_dev16 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_136 : BitVec 32 := 1#32
  let v199 : BitVec 32 := Scalar.addi v2 c1_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_146 : BitVec 32 := 1#32
  let v211 : BitVec 32 := Scalar.muli v209 c1_i32_146
  let v212 : BitVec 32 := Scalar.addi c0_i32_147 v211
  v212.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_151 : BitVec 32 := 2#32
  let v220 : BitVec 32 := Scalar.addi v2 c2_i32_151
  let c16_i32_152 : BitVec 32 := 16#32
  let c0_i32_153 : BitVec 32 := 0#32
  let v221 : BitVec 1 := Scalar.cmpi .eq c16_i32_152 c0_i32_153
  let c1_i32_154 : BitVec 32 := 1#32
  let v222 : BitVec 32 := Scalar.select v221 c1_i32_154 c16_i32_152
  let v223 : BitVec 32 := Scalar.remsi v220 v222
  let c0_i32_156 : BitVec 32 := 0#32
  let v225 : BitVec 1 := Scalar.cmpi .slt v223 c0_i32_156
  let c0_i32_157 : BitVec 32 := 0#32
  let v226 : BitVec 1 := Scalar.cmpi .slt v222 c0_i32_157
  let v227 : BitVec 1 := Scalar.xori v225 v226
  let c0_i32_155 : BitVec 32 := 0#32
  let v224 : BitVec 1 := Scalar.cmpi .ne v223 c0_i32_155
  let v228 : BitVec 1 := Scalar.andi v227 v224
  let v229 : BitVec 32 := Scalar.addi v223 v222
  let v230 : BitVec 32 := Scalar.select v228 v229 v223
  let c1_i32_162 : BitVec 32 := 1#32
  let v232 : BitVec 32 := Scalar.muli v230 c1_i32_162
  let v233 : BitVec 32 := Scalar.addi c0_i32_163 v232
  v233.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v241 : BitVec 32 := Scalar.addi v2 c3_i32_167
  let c16_i32_168 : BitVec 32 := 16#32
  let c0_i32_169 : BitVec 32 := 0#32
  let v242 : BitVec 1 := Scalar.cmpi .eq c16_i32_168 c0_i32_169
  let c1_i32_170 : BitVec 32 := 1#32
  let v243 : BitVec 32 := Scalar.select v242 c1_i32_170 c16_i32_168
  let v244 : BitVec 32 := Scalar.remsi v241 v243
  let c0_i32_172 : BitVec 32 := 0#32
  let v246 : BitVec 1 := Scalar.cmpi .slt v244 c0_i32_172
  let c0_i32_173 : BitVec 32 := 0#32
  let v247 : BitVec 1 := Scalar.cmpi .slt v243 c0_i32_173
  let v248 : BitVec 1 := Scalar.xori v246 v247
  let c0_i32_171 : BitVec 32 := 0#32
  let v245 : BitVec 1 := Scalar.cmpi .ne v244 c0_i32_171
  let v249 : BitVec 1 := Scalar.andi v248 v245
  let v250 : BitVec 32 := Scalar.addi v244 v243
  let v251 : BitVec 32 := Scalar.select v249 v250 v244
  let c1_i32_178 : BitVec 32 := 1#32
  let v253 : BitVec 32 := Scalar.muli v251 c1_i32_178
  let v254 : BitVec 32 := Scalar.addi c0_i32_179 v253
  v254.toNat
def k0_dev19 (d0 : Dev nD) : Nat :=
  let c0_i32_195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_183 : BitVec 32 := 4#32
  let v262 : BitVec 32 := Scalar.addi v2 c4_i32_183
  let c16_i32_184 : BitVec 32 := 16#32
  let c0_i32_185 : BitVec 32 := 0#32
  let v263 : BitVec 1 := Scalar.cmpi .eq c16_i32_184 c0_i32_185
  let c1_i32_186 : BitVec 32 := 1#32
  let v264 : BitVec 32 := Scalar.select v263 c1_i32_186 c16_i32_184
  let v265 : BitVec 32 := Scalar.remsi v262 v264
  let c0_i32_188 : BitVec 32 := 0#32
  let v267 : BitVec 1 := Scalar.cmpi .slt v265 c0_i32_188
  let c0_i32_189 : BitVec 32 := 0#32
  let v268 : BitVec 1 := Scalar.cmpi .slt v264 c0_i32_189
  let v269 : BitVec 1 := Scalar.xori v267 v268
  let c0_i32_187 : BitVec 32 := 0#32
  let v266 : BitVec 1 := Scalar.cmpi .ne v265 c0_i32_187
  let v270 : BitVec 1 := Scalar.andi v269 v266
  let v271 : BitVec 32 := Scalar.addi v265 v264
  let v272 : BitVec 32 := Scalar.select v270 v271 v265
  let c1_i32_194 : BitVec 32 := 1#32
  let v274 : BitVec 32 := Scalar.muli v272 c1_i32_194
  let v275 : BitVec 32 := Scalar.addi c0_i32_195 v274
  v275.toNat
def k0_dev20 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_199 : BitVec 32 := 5#32
  let v283 : BitVec 32 := Scalar.addi v2 c5_i32_199
  let c16_i32_200 : BitVec 32 := 16#32
  let c0_i32_201 : BitVec 32 := 0#32
  let v284 : BitVec 1 := Scalar.cmpi .eq c16_i32_200 c0_i32_201
  let c1_i32_202 : BitVec 32 := 1#32
  let v285 : BitVec 32 := Scalar.select v284 c1_i32_202 c16_i32_200
  let v286 : BitVec 32 := Scalar.remsi v283 v285
  let c0_i32_204 : BitVec 32 := 0#32
  let v288 : BitVec 1 := Scalar.cmpi .slt v286 c0_i32_204
  let c0_i32_205 : BitVec 32 := 0#32
  let v289 : BitVec 1 := Scalar.cmpi .slt v285 c0_i32_205
  let v290 : BitVec 1 := Scalar.xori v288 v289
  let c0_i32_203 : BitVec 32 := 0#32
  let v287 : BitVec 1 := Scalar.cmpi .ne v286 c0_i32_203
  let v291 : BitVec 1 := Scalar.andi v290 v287
  let v292 : BitVec 32 := Scalar.addi v286 v285
  let v293 : BitVec 32 := Scalar.select v291 v292 v286
  let c1_i32_210 : BitVec 32 := 1#32
  let v295 : BitVec 32 := Scalar.muli v293 c1_i32_210
  let v296 : BitVec 32 := Scalar.addi c0_i32_211 v295
  v296.toNat
def k0_dev21 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_215 : BitVec 32 := 6#32
  let v304 : BitVec 32 := Scalar.addi v2 c6_i32_215
  let c16_i32_216 : BitVec 32 := 16#32
  let c0_i32_217 : BitVec 32 := 0#32
  let v305 : BitVec 1 := Scalar.cmpi .eq c16_i32_216 c0_i32_217
  let c1_i32_218 : BitVec 32 := 1#32
  let v306 : BitVec 32 := Scalar.select v305 c1_i32_218 c16_i32_216
  let v307 : BitVec 32 := Scalar.remsi v304 v306
  let c0_i32_220 : BitVec 32 := 0#32
  let v309 : BitVec 1 := Scalar.cmpi .slt v307 c0_i32_220
  let c0_i32_221 : BitVec 32 := 0#32
  let v310 : BitVec 1 := Scalar.cmpi .slt v306 c0_i32_221
  let v311 : BitVec 1 := Scalar.xori v309 v310
  let c0_i32_219 : BitVec 32 := 0#32
  let v308 : BitVec 1 := Scalar.cmpi .ne v307 c0_i32_219
  let v312 : BitVec 1 := Scalar.andi v311 v308
  let v313 : BitVec 32 := Scalar.addi v307 v306
  let v314 : BitVec 32 := Scalar.select v312 v313 v307
  let c1_i32_226 : BitVec 32 := 1#32
  let v316 : BitVec 32 := Scalar.muli v314 c1_i32_226
  let v317 : BitVec 32 := Scalar.addi c0_i32_227 v316
  v317.toNat
def k0_dev22 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_231 : BitVec 32 := 7#32
  let v325 : BitVec 32 := Scalar.addi v2 c7_i32_231
  let c16_i32_232 : BitVec 32 := 16#32
  let c0_i32_233 : BitVec 32 := 0#32
  let v326 : BitVec 1 := Scalar.cmpi .eq c16_i32_232 c0_i32_233
  let c1_i32_234 : BitVec 32 := 1#32
  let v327 : BitVec 32 := Scalar.select v326 c1_i32_234 c16_i32_232
  let v328 : BitVec 32 := Scalar.remsi v325 v327
  let c0_i32_236 : BitVec 32 := 0#32
  let v330 : BitVec 1 := Scalar.cmpi .slt v328 c0_i32_236
  let c0_i32_237 : BitVec 32 := 0#32
  let v331 : BitVec 1 := Scalar.cmpi .slt v327 c0_i32_237
  let v332 : BitVec 1 := Scalar.xori v330 v331
  let c0_i32_235 : BitVec 32 := 0#32
  let v329 : BitVec 1 := Scalar.cmpi .ne v328 c0_i32_235
  let v333 : BitVec 1 := Scalar.andi v332 v329
  let v334 : BitVec 32 := Scalar.addi v328 v327
  let v335 : BitVec 32 := Scalar.select v333 v334 v328
  let c1_i32_242 : BitVec 32 := 1#32
  let v337 : BitVec 32 := Scalar.muli v335 c1_i32_242
  let v338 : BitVec 32 := Scalar.addi c0_i32_243 v337
  v338.toNat
def k0_dev23 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v346 : BitVec 32 := Scalar.addi v2 c8_i32_247
  let c16_i32_248 : BitVec 32 := 16#32
  let c0_i32_249 : BitVec 32 := 0#32
  let v347 : BitVec 1 := Scalar.cmpi .eq c16_i32_248 c0_i32_249
  let c1_i32_250 : BitVec 32 := 1#32
  let v348 : BitVec 32 := Scalar.select v347 c1_i32_250 c16_i32_248
  let v349 : BitVec 32 := Scalar.remsi v346 v348
  let c0_i32_252 : BitVec 32 := 0#32
  let v351 : BitVec 1 := Scalar.cmpi .slt v349 c0_i32_252
  let c0_i32_253 : BitVec 32 := 0#32
  let v352 : BitVec 1 := Scalar.cmpi .slt v348 c0_i32_253
  let v353 : BitVec 1 := Scalar.xori v351 v352
  let c0_i32_251 : BitVec 32 := 0#32
  let v350 : BitVec 1 := Scalar.cmpi .ne v349 c0_i32_251
  let v354 : BitVec 1 := Scalar.andi v353 v350
  let v355 : BitVec 32 := Scalar.addi v349 v348
  let v356 : BitVec 32 := Scalar.select v354 v355 v349
  let c1_i32_258 : BitVec 32 := 1#32
  let v358 : BitVec 32 := Scalar.muli v356 c1_i32_258
  let v359 : BitVec 32 := Scalar.addi c0_i32_259 v358
  v359.toNat
def k0_dev24 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_263 : BitVec 32 := 9#32
  let v367 : BitVec 32 := Scalar.addi v2 c9_i32_263
  let c16_i32_264 : BitVec 32 := 16#32
  let c0_i32_265 : BitVec 32 := 0#32
  let v368 : BitVec 1 := Scalar.cmpi .eq c16_i32_264 c0_i32_265
  let c1_i32_266 : BitVec 32 := 1#32
  let v369 : BitVec 32 := Scalar.select v368 c1_i32_266 c16_i32_264
  let v370 : BitVec 32 := Scalar.remsi v367 v369
  let c0_i32_268 : BitVec 32 := 0#32
  let v372 : BitVec 1 := Scalar.cmpi .slt v370 c0_i32_268
  let c0_i32_269 : BitVec 32 := 0#32
  let v373 : BitVec 1 := Scalar.cmpi .slt v369 c0_i32_269
  let v374 : BitVec 1 := Scalar.xori v372 v373
  let c0_i32_267 : BitVec 32 := 0#32
  let v371 : BitVec 1 := Scalar.cmpi .ne v370 c0_i32_267
  let v375 : BitVec 1 := Scalar.andi v374 v371
  let v376 : BitVec 32 := Scalar.addi v370 v369
  let v377 : BitVec 32 := Scalar.select v375 v376 v370
  let c1_i32_274 : BitVec 32 := 1#32
  let v379 : BitVec 32 := Scalar.muli v377 c1_i32_274
  let v380 : BitVec 32 := Scalar.addi c0_i32_275 v379
  v380.toNat
def k0_dev25 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_279 : BitVec 32 := 10#32
  let v388 : BitVec 32 := Scalar.addi v2 c10_i32_279
  let c16_i32_280 : BitVec 32 := 16#32
  let c0_i32_281 : BitVec 32 := 0#32
  let v389 : BitVec 1 := Scalar.cmpi .eq c16_i32_280 c0_i32_281
  let c1_i32_282 : BitVec 32 := 1#32
  let v390 : BitVec 32 := Scalar.select v389 c1_i32_282 c16_i32_280
  let v391 : BitVec 32 := Scalar.remsi v388 v390
  let c0_i32_284 : BitVec 32 := 0#32
  let v393 : BitVec 1 := Scalar.cmpi .slt v391 c0_i32_284
  let c0_i32_285 : BitVec 32 := 0#32
  let v394 : BitVec 1 := Scalar.cmpi .slt v390 c0_i32_285
  let v395 : BitVec 1 := Scalar.xori v393 v394
  let c0_i32_283 : BitVec 32 := 0#32
  let v392 : BitVec 1 := Scalar.cmpi .ne v391 c0_i32_283
  let v396 : BitVec 1 := Scalar.andi v395 v392
  let v397 : BitVec 32 := Scalar.addi v391 v390
  let v398 : BitVec 32 := Scalar.select v396 v397 v391
  let c1_i32_290 : BitVec 32 := 1#32
  let v400 : BitVec 32 := Scalar.muli v398 c1_i32_290
  let v401 : BitVec 32 := Scalar.addi c0_i32_291 v400
  v401.toNat
def k0_dev26 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_295 : BitVec 32 := 11#32
  let v409 : BitVec 32 := Scalar.addi v2 c11_i32_295
  let c16_i32_296 : BitVec 32 := 16#32
  let c0_i32_297 : BitVec 32 := 0#32
  let v410 : BitVec 1 := Scalar.cmpi .eq c16_i32_296 c0_i32_297
  let c1_i32_298 : BitVec 32 := 1#32
  let v411 : BitVec 32 := Scalar.select v410 c1_i32_298 c16_i32_296
  let v412 : BitVec 32 := Scalar.remsi v409 v411
  let c0_i32_300 : BitVec 32 := 0#32
  let v414 : BitVec 1 := Scalar.cmpi .slt v412 c0_i32_300
  let c0_i32_301 : BitVec 32 := 0#32
  let v415 : BitVec 1 := Scalar.cmpi .slt v411 c0_i32_301
  let v416 : BitVec 1 := Scalar.xori v414 v415
  let c0_i32_299 : BitVec 32 := 0#32
  let v413 : BitVec 1 := Scalar.cmpi .ne v412 c0_i32_299
  let v417 : BitVec 1 := Scalar.andi v416 v413
  let v418 : BitVec 32 := Scalar.addi v412 v411
  let v419 : BitVec 32 := Scalar.select v417 v418 v412
  let c1_i32_306 : BitVec 32 := 1#32
  let v421 : BitVec 32 := Scalar.muli v419 c1_i32_306
  let v422 : BitVec 32 := Scalar.addi c0_i32_307 v421
  v422.toNat
def k0_dev27 (d0 : Dev nD) : Nat :=
  let c0_i32_323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_311 : BitVec 32 := 12#32
  let v430 : BitVec 32 := Scalar.addi v2 c12_i32_311
  let c16_i32_312 : BitVec 32 := 16#32
  let c0_i32_313 : BitVec 32 := 0#32
  let v431 : BitVec 1 := Scalar.cmpi .eq c16_i32_312 c0_i32_313
  let c1_i32_314 : BitVec 32 := 1#32
  let v432 : BitVec 32 := Scalar.select v431 c1_i32_314 c16_i32_312
  let v433 : BitVec 32 := Scalar.remsi v430 v432
  let c0_i32_316 : BitVec 32 := 0#32
  let v435 : BitVec 1 := Scalar.cmpi .slt v433 c0_i32_316
  let c0_i32_317 : BitVec 32 := 0#32
  let v436 : BitVec 1 := Scalar.cmpi .slt v432 c0_i32_317
  let v437 : BitVec 1 := Scalar.xori v435 v436
  let c0_i32_315 : BitVec 32 := 0#32
  let v434 : BitVec 1 := Scalar.cmpi .ne v433 c0_i32_315
  let v438 : BitVec 1 := Scalar.andi v437 v434
  let v439 : BitVec 32 := Scalar.addi v433 v432
  let v440 : BitVec 32 := Scalar.select v438 v439 v433
  let c1_i32_322 : BitVec 32 := 1#32
  let v442 : BitVec 32 := Scalar.muli v440 c1_i32_322
  let v443 : BitVec 32 := Scalar.addi c0_i32_323 v442
  v443.toNat
def k0_dev28 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v451 : BitVec 32 := Scalar.addi v2 c13_i32_327
  let c16_i32_328 : BitVec 32 := 16#32
  let c0_i32_329 : BitVec 32 := 0#32
  let v452 : BitVec 1 := Scalar.cmpi .eq c16_i32_328 c0_i32_329
  let c1_i32_330 : BitVec 32 := 1#32
  let v453 : BitVec 32 := Scalar.select v452 c1_i32_330 c16_i32_328
  let v454 : BitVec 32 := Scalar.remsi v451 v453
  let c0_i32_332 : BitVec 32 := 0#32
  let v456 : BitVec 1 := Scalar.cmpi .slt v454 c0_i32_332
  let c0_i32_333 : BitVec 32 := 0#32
  let v457 : BitVec 1 := Scalar.cmpi .slt v453 c0_i32_333
  let v458 : BitVec 1 := Scalar.xori v456 v457
  let c0_i32_331 : BitVec 32 := 0#32
  let v455 : BitVec 1 := Scalar.cmpi .ne v454 c0_i32_331
  let v459 : BitVec 1 := Scalar.andi v458 v455
  let v460 : BitVec 32 := Scalar.addi v454 v453
  let v461 : BitVec 32 := Scalar.select v459 v460 v454
  let c1_i32_338 : BitVec 32 := 1#32
  let v463 : BitVec 32 := Scalar.muli v461 c1_i32_338
  let v464 : BitVec 32 := Scalar.addi c0_i32_339 v463
  v464.toNat
def k0_dev29 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_343 : BitVec 32 := 14#32
  let v472 : BitVec 32 := Scalar.addi v2 c14_i32_343
  let c16_i32_344 : BitVec 32 := 16#32
  let c0_i32_345 : BitVec 32 := 0#32
  let v473 : BitVec 1 := Scalar.cmpi .eq c16_i32_344 c0_i32_345
  let c1_i32_346 : BitVec 32 := 1#32
  let v474 : BitVec 32 := Scalar.select v473 c1_i32_346 c16_i32_344
  let v475 : BitVec 32 := Scalar.remsi v472 v474
  let c0_i32_348 : BitVec 32 := 0#32
  let v477 : BitVec 1 := Scalar.cmpi .slt v475 c0_i32_348
  let c0_i32_349 : BitVec 32 := 0#32
  let v478 : BitVec 1 := Scalar.cmpi .slt v474 c0_i32_349
  let v479 : BitVec 1 := Scalar.xori v477 v478
  let c0_i32_347 : BitVec 32 := 0#32
  let v476 : BitVec 1 := Scalar.cmpi .ne v475 c0_i32_347
  let v480 : BitVec 1 := Scalar.andi v479 v476
  let v481 : BitVec 32 := Scalar.addi v475 v474
  let v482 : BitVec 32 := Scalar.select v480 v481 v475
  let c1_i32_354 : BitVec 32 := 1#32
  let v484 : BitVec 32 := Scalar.muli v482 c1_i32_354
  let v485 : BitVec 32 := Scalar.addi c0_i32_355 v484
  v485.toNat
def k0_dev30 (d0 : Dev nD) : Nat :=
  let c0_i32_371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_359 : BitVec 32 := 15#32
  let v493 : BitVec 32 := Scalar.addi v2 c15_i32_359
  let c16_i32_360 : BitVec 32 := 16#32
  let c0_i32_361 : BitVec 32 := 0#32
  let v494 : BitVec 1 := Scalar.cmpi .eq c16_i32_360 c0_i32_361
  let c1_i32_362 : BitVec 32 := 1#32
  let v495 : BitVec 32 := Scalar.select v494 c1_i32_362 c16_i32_360
  let v496 : BitVec 32 := Scalar.remsi v493 v495
  let c0_i32_364 : BitVec 32 := 0#32
  let v498 : BitVec 1 := Scalar.cmpi .slt v496 c0_i32_364
  let c0_i32_365 : BitVec 32 := 0#32
  let v499 : BitVec 1 := Scalar.cmpi .slt v495 c0_i32_365
  let v500 : BitVec 1 := Scalar.xori v498 v499
  let c0_i32_363 : BitVec 32 := 0#32
  let v497 : BitVec 1 := Scalar.cmpi .ne v496 c0_i32_363
  let v501 : BitVec 1 := Scalar.andi v500 v497
  let v502 : BitVec 32 := Scalar.addi v496 v495
  let v503 : BitVec 32 := Scalar.select v501 v502 v496
  let c1_i32_370 : BitVec 32 := 1#32
  let v505 : BitVec 32 := Scalar.muli v503 c1_i32_370
  let v506 : BitVec 32 := Scalar.addi c0_i32_371 v505
  v506.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_375 : BitVec 32 := 32#32
  let v514 : BitVec 32 := Scalar.muli v2 c32_i32_375
  let v515 : Index := Scalar.indexCast v514
  let c0 : Index := 0#32
  ![v515.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_512 : BitVec 32 := 32#32
  let v643 : BitVec 32 := Scalar.muli v2 c32_i32_512
  let c0_i32_517 : BitVec 32 := 0#32
  ![v643.toNat, 0]
def k0_dev31 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_504 : BitVec 32 := 1#32
  let v631 : BitVec 32 := Scalar.addi v2 c1_i32_504
  let c16_i32_505 : BitVec 32 := 16#32
  let c0_i32_506 : BitVec 32 := 0#32
  let v632 : BitVec 1 := Scalar.cmpi .eq c16_i32_505 c0_i32_506
  let c1_i32_507 : BitVec 32 := 1#32
  let v633 : BitVec 32 := Scalar.select v632 c1_i32_507 c16_i32_505
  let v634 : BitVec 32 := Scalar.remsi v631 v633
  let c0_i32_509 : BitVec 32 := 0#32
  let v636 : BitVec 1 := Scalar.cmpi .slt v634 c0_i32_509
  let c0_i32_510 : BitVec 32 := 0#32
  let v637 : BitVec 1 := Scalar.cmpi .slt v633 c0_i32_510
  let v638 : BitVec 1 := Scalar.xori v636 v637
  let c0_i32_508 : BitVec 32 := 0#32
  let v635 : BitVec 1 := Scalar.cmpi .ne v634 c0_i32_508
  let v639 : BitVec 1 := Scalar.andi v638 v635
  let v640 : BitVec 32 := Scalar.addi v634 v633
  let v641 : BitVec 32 := Scalar.select v639 v640 v634
  let c1_i32_515 : BitVec 32 := 1#32
  let v644 : BitVec 32 := Scalar.muli v641 c1_i32_515
  let v645 : BitVec 32 := Scalar.addi c0_i32_516 v644
  v645.toNat
def k0_dev32 (d0 : Dev nD) : Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_519 : BitVec 32 := 2#32
  let v652 : BitVec 32 := Scalar.addi v2 c2_i32_519
  let c16_i32_520 : BitVec 32 := 16#32
  let c0_i32_521 : BitVec 32 := 0#32
  let v653 : BitVec 1 := Scalar.cmpi .eq c16_i32_520 c0_i32_521
  let c1_i32_522 : BitVec 32 := 1#32
  let v654 : BitVec 32 := Scalar.select v653 c1_i32_522 c16_i32_520
  let v655 : BitVec 32 := Scalar.remsi v652 v654
  let c0_i32_524 : BitVec 32 := 0#32
  let v657 : BitVec 1 := Scalar.cmpi .slt v655 c0_i32_524
  let c0_i32_525 : BitVec 32 := 0#32
  let v658 : BitVec 1 := Scalar.cmpi .slt v654 c0_i32_525
  let v659 : BitVec 1 := Scalar.xori v657 v658
  let c0_i32_523 : BitVec 32 := 0#32
  let v656 : BitVec 1 := Scalar.cmpi .ne v655 c0_i32_523
  let v660 : BitVec 1 := Scalar.andi v659 v656
  let v661 : BitVec 32 := Scalar.addi v655 v654
  let v662 : BitVec 32 := Scalar.select v660 v661 v655
  let c1_i32_530 : BitVec 32 := 1#32
  let v665 : BitVec 32 := Scalar.muli v662 c1_i32_530
  let v666 : BitVec 32 := Scalar.addi c0_i32_531 v665
  v666.toNat
def k0_dev33 (d0 : Dev nD) : Nat :=
  let c0_i32_546 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_534 : BitVec 32 := 3#32
  let v673 : BitVec 32 := Scalar.addi v2 c3_i32_534
  let c16_i32_535 : BitVec 32 := 16#32
  let c0_i32_536 : BitVec 32 := 0#32
  let v674 : BitVec 1 := Scalar.cmpi .eq c16_i32_535 c0_i32_536
  let c1_i32_537 : BitVec 32 := 1#32
  let v675 : BitVec 32 := Scalar.select v674 c1_i32_537 c16_i32_535
  let v676 : BitVec 32 := Scalar.remsi v673 v675
  let c0_i32_539 : BitVec 32 := 0#32
  let v678 : BitVec 1 := Scalar.cmpi .slt v676 c0_i32_539
  let c0_i32_540 : BitVec 32 := 0#32
  let v679 : BitVec 1 := Scalar.cmpi .slt v675 c0_i32_540
  let v680 : BitVec 1 := Scalar.xori v678 v679
  let c0_i32_538 : BitVec 32 := 0#32
  let v677 : BitVec 1 := Scalar.cmpi .ne v676 c0_i32_538
  let v681 : BitVec 1 := Scalar.andi v680 v677
  let v682 : BitVec 32 := Scalar.addi v676 v675
  let v683 : BitVec 32 := Scalar.select v681 v682 v676
  let c1_i32_545 : BitVec 32 := 1#32
  let v686 : BitVec 32 := Scalar.muli v683 c1_i32_545
  let v687 : BitVec 32 := Scalar.addi c0_i32_546 v686
  v687.toNat
def k0_dev34 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_549 : BitVec 32 := 4#32
  let v694 : BitVec 32 := Scalar.addi v2 c4_i32_549
  let c16_i32_550 : BitVec 32 := 16#32
  let c0_i32_551 : BitVec 32 := 0#32
  let v695 : BitVec 1 := Scalar.cmpi .eq c16_i32_550 c0_i32_551
  let c1_i32_552 : BitVec 32 := 1#32
  let v696 : BitVec 32 := Scalar.select v695 c1_i32_552 c16_i32_550
  let v697 : BitVec 32 := Scalar.remsi v694 v696
  let c0_i32_554 : BitVec 32 := 0#32
  let v699 : BitVec 1 := Scalar.cmpi .slt v697 c0_i32_554
  let c0_i32_555 : BitVec 32 := 0#32
  let v700 : BitVec 1 := Scalar.cmpi .slt v696 c0_i32_555
  let v701 : BitVec 1 := Scalar.xori v699 v700
  let c0_i32_553 : BitVec 32 := 0#32
  let v698 : BitVec 1 := Scalar.cmpi .ne v697 c0_i32_553
  let v702 : BitVec 1 := Scalar.andi v701 v698
  let v703 : BitVec 32 := Scalar.addi v697 v696
  let v704 : BitVec 32 := Scalar.select v702 v703 v697
  let c1_i32_560 : BitVec 32 := 1#32
  let v707 : BitVec 32 := Scalar.muli v704 c1_i32_560
  let v708 : BitVec 32 := Scalar.addi c0_i32_561 v707
  v708.toNat
def k0_dev35 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_564 : BitVec 32 := 5#32
  let v715 : BitVec 32 := Scalar.addi v2 c5_i32_564
  let c16_i32_565 : BitVec 32 := 16#32
  let c0_i32_566 : BitVec 32 := 0#32
  let v716 : BitVec 1 := Scalar.cmpi .eq c16_i32_565 c0_i32_566
  let c1_i32_567 : BitVec 32 := 1#32
  let v717 : BitVec 32 := Scalar.select v716 c1_i32_567 c16_i32_565
  let v718 : BitVec 32 := Scalar.remsi v715 v717
  let c0_i32_569 : BitVec 32 := 0#32
  let v720 : BitVec 1 := Scalar.cmpi .slt v718 c0_i32_569
  let c0_i32_570 : BitVec 32 := 0#32
  let v721 : BitVec 1 := Scalar.cmpi .slt v717 c0_i32_570
  let v722 : BitVec 1 := Scalar.xori v720 v721
  let c0_i32_568 : BitVec 32 := 0#32
  let v719 : BitVec 1 := Scalar.cmpi .ne v718 c0_i32_568
  let v723 : BitVec 1 := Scalar.andi v722 v719
  let v724 : BitVec 32 := Scalar.addi v718 v717
  let v725 : BitVec 32 := Scalar.select v723 v724 v718
  let c1_i32_575 : BitVec 32 := 1#32
  let v728 : BitVec 32 := Scalar.muli v725 c1_i32_575
  let v729 : BitVec 32 := Scalar.addi c0_i32_576 v728
  v729.toNat
def k0_dev36 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_579 : BitVec 32 := 6#32
  let v736 : BitVec 32 := Scalar.addi v2 c6_i32_579
  let c16_i32_580 : BitVec 32 := 16#32
  let c0_i32_581 : BitVec 32 := 0#32
  let v737 : BitVec 1 := Scalar.cmpi .eq c16_i32_580 c0_i32_581
  let c1_i32_582 : BitVec 32 := 1#32
  let v738 : BitVec 32 := Scalar.select v737 c1_i32_582 c16_i32_580
  let v739 : BitVec 32 := Scalar.remsi v736 v738
  let c0_i32_584 : BitVec 32 := 0#32
  let v741 : BitVec 1 := Scalar.cmpi .slt v739 c0_i32_584
  let c0_i32_585 : BitVec 32 := 0#32
  let v742 : BitVec 1 := Scalar.cmpi .slt v738 c0_i32_585
  let v743 : BitVec 1 := Scalar.xori v741 v742
  let c0_i32_583 : BitVec 32 := 0#32
  let v740 : BitVec 1 := Scalar.cmpi .ne v739 c0_i32_583
  let v744 : BitVec 1 := Scalar.andi v743 v740
  let v745 : BitVec 32 := Scalar.addi v739 v738
  let v746 : BitVec 32 := Scalar.select v744 v745 v739
  let c1_i32_590 : BitVec 32 := 1#32
  let v749 : BitVec 32 := Scalar.muli v746 c1_i32_590
  let v750 : BitVec 32 := Scalar.addi c0_i32_591 v749
  v750.toNat
def k0_dev37 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_594 : BitVec 32 := 7#32
  let v757 : BitVec 32 := Scalar.addi v2 c7_i32_594
  let c16_i32_595 : BitVec 32 := 16#32
  let c0_i32_596 : BitVec 32 := 0#32
  let v758 : BitVec 1 := Scalar.cmpi .eq c16_i32_595 c0_i32_596
  let c1_i32_597 : BitVec 32 := 1#32
  let v759 : BitVec 32 := Scalar.select v758 c1_i32_597 c16_i32_595
  let v760 : BitVec 32 := Scalar.remsi v757 v759
  let c0_i32_599 : BitVec 32 := 0#32
  let v762 : BitVec 1 := Scalar.cmpi .slt v760 c0_i32_599
  let c0_i32_600 : BitVec 32 := 0#32
  let v763 : BitVec 1 := Scalar.cmpi .slt v759 c0_i32_600
  let v764 : BitVec 1 := Scalar.xori v762 v763
  let c0_i32_598 : BitVec 32 := 0#32
  let v761 : BitVec 1 := Scalar.cmpi .ne v760 c0_i32_598
  let v765 : BitVec 1 := Scalar.andi v764 v761
  let v766 : BitVec 32 := Scalar.addi v760 v759
  let v767 : BitVec 32 := Scalar.select v765 v766 v760
  let c1_i32_605 : BitVec 32 := 1#32
  let v770 : BitVec 32 := Scalar.muli v767 c1_i32_605
  let v771 : BitVec 32 := Scalar.addi c0_i32_606 v770
  v771.toNat
def k0_dev38 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_609 : BitVec 32 := 8#32
  let v778 : BitVec 32 := Scalar.addi v2 c8_i32_609
  let c16_i32_610 : BitVec 32 := 16#32
  let c0_i32_611 : BitVec 32 := 0#32
  let v779 : BitVec 1 := Scalar.cmpi .eq c16_i32_610 c0_i32_611
  let c1_i32_612 : BitVec 32 := 1#32
  let v780 : BitVec 32 := Scalar.select v779 c1_i32_612 c16_i32_610
  let v781 : BitVec 32 := Scalar.remsi v778 v780
  let c0_i32_614 : BitVec 32 := 0#32
  let v783 : BitVec 1 := Scalar.cmpi .slt v781 c0_i32_614
  let c0_i32_615 : BitVec 32 := 0#32
  let v784 : BitVec 1 := Scalar.cmpi .slt v780 c0_i32_615
  let v785 : BitVec 1 := Scalar.xori v783 v784
  let c0_i32_613 : BitVec 32 := 0#32
  let v782 : BitVec 1 := Scalar.cmpi .ne v781 c0_i32_613
  let v786 : BitVec 1 := Scalar.andi v785 v782
  let v787 : BitVec 32 := Scalar.addi v781 v780
  let v788 : BitVec 32 := Scalar.select v786 v787 v781
  let c1_i32_620 : BitVec 32 := 1#32
  let v791 : BitVec 32 := Scalar.muli v788 c1_i32_620
  let v792 : BitVec 32 := Scalar.addi c0_i32_621 v791
  v792.toNat
def k0_dev39 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_624 : BitVec 32 := 9#32
  let v799 : BitVec 32 := Scalar.addi v2 c9_i32_624
  let c16_i32_625 : BitVec 32 := 16#32
  let c0_i32_626 : BitVec 32 := 0#32
  let v800 : BitVec 1 := Scalar.cmpi .eq c16_i32_625 c0_i32_626
  let c1_i32_627 : BitVec 32 := 1#32
  let v801 : BitVec 32 := Scalar.select v800 c1_i32_627 c16_i32_625
  let v802 : BitVec 32 := Scalar.remsi v799 v801
  let c0_i32_629 : BitVec 32 := 0#32
  let v804 : BitVec 1 := Scalar.cmpi .slt v802 c0_i32_629
  let c0_i32_630 : BitVec 32 := 0#32
  let v805 : BitVec 1 := Scalar.cmpi .slt v801 c0_i32_630
  let v806 : BitVec 1 := Scalar.xori v804 v805
  let c0_i32_628 : BitVec 32 := 0#32
  let v803 : BitVec 1 := Scalar.cmpi .ne v802 c0_i32_628
  let v807 : BitVec 1 := Scalar.andi v806 v803
  let v808 : BitVec 32 := Scalar.addi v802 v801
  let v809 : BitVec 32 := Scalar.select v807 v808 v802
  let c1_i32_635 : BitVec 32 := 1#32
  let v812 : BitVec 32 := Scalar.muli v809 c1_i32_635
  let v813 : BitVec 32 := Scalar.addi c0_i32_636 v812
  v813.toNat
def k0_dev40 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_639 : BitVec 32 := 10#32
  let v820 : BitVec 32 := Scalar.addi v2 c10_i32_639
  let c16_i32_640 : BitVec 32 := 16#32
  let c0_i32_641 : BitVec 32 := 0#32
  let v821 : BitVec 1 := Scalar.cmpi .eq c16_i32_640 c0_i32_641
  let c1_i32_642 : BitVec 32 := 1#32
  let v822 : BitVec 32 := Scalar.select v821 c1_i32_642 c16_i32_640
  let v823 : BitVec 32 := Scalar.remsi v820 v822
  let c0_i32_644 : BitVec 32 := 0#32
  let v825 : BitVec 1 := Scalar.cmpi .slt v823 c0_i32_644
  let c0_i32_645 : BitVec 32 := 0#32
  let v826 : BitVec 1 := Scalar.cmpi .slt v822 c0_i32_645
  let v827 : BitVec 1 := Scalar.xori v825 v826
  let c0_i32_643 : BitVec 32 := 0#32
  let v824 : BitVec 1 := Scalar.cmpi .ne v823 c0_i32_643
  let v828 : BitVec 1 := Scalar.andi v827 v824
  let v829 : BitVec 32 := Scalar.addi v823 v822
  let v830 : BitVec 32 := Scalar.select v828 v829 v823
  let c1_i32_650 : BitVec 32 := 1#32
  let v833 : BitVec 32 := Scalar.muli v830 c1_i32_650
  let v834 : BitVec 32 := Scalar.addi c0_i32_651 v833
  v834.toNat
def k0_dev41 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_654 : BitVec 32 := 11#32
  let v841 : BitVec 32 := Scalar.addi v2 c11_i32_654
  let c16_i32_655 : BitVec 32 := 16#32
  let c0_i32_656 : BitVec 32 := 0#32
  let v842 : BitVec 1 := Scalar.cmpi .eq c16_i32_655 c0_i32_656
  let c1_i32_657 : BitVec 32 := 1#32
  let v843 : BitVec 32 := Scalar.select v842 c1_i32_657 c16_i32_655
  let v844 : BitVec 32 := Scalar.remsi v841 v843
  let c0_i32_659 : BitVec 32 := 0#32
  let v846 : BitVec 1 := Scalar.cmpi .slt v844 c0_i32_659
  let c0_i32_660 : BitVec 32 := 0#32
  let v847 : BitVec 1 := Scalar.cmpi .slt v843 c0_i32_660
  let v848 : BitVec 1 := Scalar.xori v846 v847
  let c0_i32_658 : BitVec 32 := 0#32
  let v845 : BitVec 1 := Scalar.cmpi .ne v844 c0_i32_658
  let v849 : BitVec 1 := Scalar.andi v848 v845
  let v850 : BitVec 32 := Scalar.addi v844 v843
  let v851 : BitVec 32 := Scalar.select v849 v850 v844
  let c1_i32_665 : BitVec 32 := 1#32
  let v854 : BitVec 32 := Scalar.muli v851 c1_i32_665
  let v855 : BitVec 32 := Scalar.addi c0_i32_666 v854
  v855.toNat
def k0_dev42 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_669 : BitVec 32 := 12#32
  let v862 : BitVec 32 := Scalar.addi v2 c12_i32_669
  let c16_i32_670 : BitVec 32 := 16#32
  let c0_i32_671 : BitVec 32 := 0#32
  let v863 : BitVec 1 := Scalar.cmpi .eq c16_i32_670 c0_i32_671
  let c1_i32_672 : BitVec 32 := 1#32
  let v864 : BitVec 32 := Scalar.select v863 c1_i32_672 c16_i32_670
  let v865 : BitVec 32 := Scalar.remsi v862 v864
  let c0_i32_674 : BitVec 32 := 0#32
  let v867 : BitVec 1 := Scalar.cmpi .slt v865 c0_i32_674
  let c0_i32_675 : BitVec 32 := 0#32
  let v868 : BitVec 1 := Scalar.cmpi .slt v864 c0_i32_675
  let v869 : BitVec 1 := Scalar.xori v867 v868
  let c0_i32_673 : BitVec 32 := 0#32
  let v866 : BitVec 1 := Scalar.cmpi .ne v865 c0_i32_673
  let v870 : BitVec 1 := Scalar.andi v869 v866
  let v871 : BitVec 32 := Scalar.addi v865 v864
  let v872 : BitVec 32 := Scalar.select v870 v871 v865
  let c1_i32_680 : BitVec 32 := 1#32
  let v875 : BitVec 32 := Scalar.muli v872 c1_i32_680
  let v876 : BitVec 32 := Scalar.addi c0_i32_681 v875
  v876.toNat
def k0_dev43 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_684 : BitVec 32 := 13#32
  let v883 : BitVec 32 := Scalar.addi v2 c13_i32_684
  let c16_i32_685 : BitVec 32 := 16#32
  let c0_i32_686 : BitVec 32 := 0#32
  let v884 : BitVec 1 := Scalar.cmpi .eq c16_i32_685 c0_i32_686
  let c1_i32_687 : BitVec 32 := 1#32
  let v885 : BitVec 32 := Scalar.select v884 c1_i32_687 c16_i32_685
  let v886 : BitVec 32 := Scalar.remsi v883 v885
  let c0_i32_689 : BitVec 32 := 0#32
  let v888 : BitVec 1 := Scalar.cmpi .slt v886 c0_i32_689
  let c0_i32_690 : BitVec 32 := 0#32
  let v889 : BitVec 1 := Scalar.cmpi .slt v885 c0_i32_690
  let v890 : BitVec 1 := Scalar.xori v888 v889
  let c0_i32_688 : BitVec 32 := 0#32
  let v887 : BitVec 1 := Scalar.cmpi .ne v886 c0_i32_688
  let v891 : BitVec 1 := Scalar.andi v890 v887
  let v892 : BitVec 32 := Scalar.addi v886 v885
  let v893 : BitVec 32 := Scalar.select v891 v892 v886
  let c1_i32_695 : BitVec 32 := 1#32
  let v896 : BitVec 32 := Scalar.muli v893 c1_i32_695
  let v897 : BitVec 32 := Scalar.addi c0_i32_696 v896
  v897.toNat
def k0_dev44 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_699 : BitVec 32 := 14#32
  let v904 : BitVec 32 := Scalar.addi v2 c14_i32_699
  let c16_i32_700 : BitVec 32 := 16#32
  let c0_i32_701 : BitVec 32 := 0#32
  let v905 : BitVec 1 := Scalar.cmpi .eq c16_i32_700 c0_i32_701
  let c1_i32_702 : BitVec 32 := 1#32
  let v906 : BitVec 32 := Scalar.select v905 c1_i32_702 c16_i32_700
  let v907 : BitVec 32 := Scalar.remsi v904 v906
  let c0_i32_704 : BitVec 32 := 0#32
  let v909 : BitVec 1 := Scalar.cmpi .slt v907 c0_i32_704
  let c0_i32_705 : BitVec 32 := 0#32
  let v910 : BitVec 1 := Scalar.cmpi .slt v906 c0_i32_705
  let v911 : BitVec 1 := Scalar.xori v909 v910
  let c0_i32_703 : BitVec 32 := 0#32
  let v908 : BitVec 1 := Scalar.cmpi .ne v907 c0_i32_703
  let v912 : BitVec 1 := Scalar.andi v911 v908
  let v913 : BitVec 32 := Scalar.addi v907 v906
  let v914 : BitVec 32 := Scalar.select v912 v913 v907
  let c1_i32_710 : BitVec 32 := 1#32
  let v917 : BitVec 32 := Scalar.muli v914 c1_i32_710
  let v918 : BitVec 32 := Scalar.addi c0_i32_711 v917
  v918.toNat
def k0_dev45 (d0 : Dev nD) : Nat :=
  let c0_i32_726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_714 : BitVec 32 := 15#32
  let v925 : BitVec 32 := Scalar.addi v2 c15_i32_714
  let c16_i32_715 : BitVec 32 := 16#32
  let c0_i32_716 : BitVec 32 := 0#32
  let v926 : BitVec 1 := Scalar.cmpi .eq c16_i32_715 c0_i32_716
  let c1_i32_717 : BitVec 32 := 1#32
  let v927 : BitVec 32 := Scalar.select v926 c1_i32_717 c16_i32_715
  let v928 : BitVec 32 := Scalar.remsi v925 v927
  let c0_i32_719 : BitVec 32 := 0#32
  let v930 : BitVec 1 := Scalar.cmpi .slt v928 c0_i32_719
  let c0_i32_720 : BitVec 32 := 0#32
  let v931 : BitVec 1 := Scalar.cmpi .slt v927 c0_i32_720
  let v932 : BitVec 1 := Scalar.xori v930 v931
  let c0_i32_718 : BitVec 32 := 0#32
  let v929 : BitVec 1 := Scalar.cmpi .ne v928 c0_i32_718
  let v933 : BitVec 1 := Scalar.andi v932 v929
  let v934 : BitVec 32 := Scalar.addi v928 v927
  let v935 : BitVec 32 := Scalar.select v933 v934 v928
  let c1_i32_725 : BitVec 32 := 1#32
  let v938 : BitVec 32 := Scalar.muli v935 c1_i32_725
  let v939 : BitVec 32 := Scalar.addi c0_i32_726 v938
  v939.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S16x512x512 : Shape := ⟨3, ![16, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S_, .f32⟩
  | .hbm, ⟨3, _⟩ => ⟨S512x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Form.lean ====
/-
# The kernel's body as eight phases

The printed body is a straight line of some hundred and thirty operations: fifteen signals, a wait, fifteen transfers, a
copy, fifteen waits, a sum, fifteen transfers and forty-five waits. Here it is written with each group of fifteen as ONE
operation repeated over the distances `1 … 15` (`opsL`), so that a proof treats a group once, at a symbolic distance.
`body_eq` says the printed body is that program.

`peer c i` is the device `i + 1` places after `c` around the mesh of sixteen.
-/
module

public import proofs.«01_k».proof.Proof.Gen.KernelIdeal
public import proofs.«01_k».proof.Proof.Gen.KernelIdeal.Skeleton
public import Idealize.ShloMosaic.Lib.Pipeline.Regions

@[expose] public section

noncomputable section

namespace Cert.KernelIdeal.AllReduce

open Cert.KernelIdeal Cert.KernelIdeal.Gen
open Idealize.ShloMosaic Idealize.ShloMosaic.TcCoe Idealize.SL.Sem

variable {F : FTy → Type} [FloatOps F]

/-- One operation for each member of a list, in order, and then the rest of the program. -/
def opsL {ι α : Type} {E : Type → Type} (f : ι → E PUnit) : List ι → Prog E α → Prog E α
  | [], k => k
  | i :: l, k => .op (f i) fun _ => opsL f l k

/-- The fifteen distances, distance `d` as the index `d - 1`. -/
abbrev dist : List (Fin 15) := [0, 1, 2, 3, 4, 5, 6, 7, 8, 9, 10, 11, 12, 13, 14]

/-- The device `i + 1` places after `c`. -/
def peer (c : Dev nD) (i : Fin 15) : Dev nD := ⟨(c.val + (i.val + 1)) % 16, Nat.mod_lt _ (by decide)⟩

/-! ## Operands -/

/-- The staged block of `x`, the staged result, and the landing buffer of the first exchange. -/
abbrev xM : Memref sig .tc .vmem S512x512 .f32 := Memref.whole cc0_stg0_0
abbrev oM : Memref sig .tc .vmem S512x512 .f32 := Memref.whole cc0_stg1_0
abbrev bM : Memref sig .tc .vmem S16x32x512 .f32 := Memref.whole cc0_scratch0

/-- The barrier semaphore. -/
abbrev barS : Sem sig := (SemArray.scalar (sig.barrier 0 rfl) : Sems sig S_).sem

/-- The semaphore for distance `i + 1` of an array of sixteen. -/
theorem semAt_inb (i : Fin 15) : ∀ a, (![i.val + 1] : Fin 1 → Nat) a + S1.size a ≤ S16.size a := by revert i; decide
abbrev semAt (a : DmaSems sig S16) (i : Fin 15) : DmaSem sig :=
  ((a.slice (Rect.unit (s := S16) ![i.val + 1] S1.size (semAt_inb i))).squeeze S_ squeezes_S1_S_).sem

/-- Slot `s` of the landing buffer, a block of 32 rows. -/
theorem slot_inb (s : Fin 16) : ∀ a, (![s.val, 0, 0] : Fin 3 → Nat) a + S1x32x512.size a ≤ S16x32x512.size a := by
  revert s; decide
abbrev slotM (s : Fin 16) : Memref sig .tc .vmem S32x512 .f32 :=
  (bM.slice (Rect.unit (s := S16x32x512) ![s.val, 0, 0] S1x32x512.size (slot_inb s)) (fun _ => rfl)).squeeze S32x512
    squeezes_S1x32x512_S32x512

/-- The rows of `x` that go to the device at distance `i + 1`, and a device's own rows of the result, as the kernel
    computes where they start. -/
abbrev xRowsM (c : Dev nD) (i : Fin 15) : Memref sig .tc .vmem S32x512 .f32 :=
  xM.slice (Rect.unit (s := S512x512) (k0_off1 c (BitVec.ofNat 32 (1 + i.val))) S32x512.size (k0_off1_inb c i)) (fun _ => rfl)
abbrev oRowsM (c : Dev nD) : Memref sig .tc .vmem S32x512 .f32 :=
  oM.slice (Rect.unit (s := S512x512) (k0_off3 c) S32x512.size (k0_off3_inb c)) (fun _ => rfl)

/-- The device the signal, the first transfer and the second transfer at a distance address, as the kernel computes it. -/
def sigDev (c : Dev nD) : Fin 15 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
  | 7 => ⟨k0_dev8 c, k0_dev8_lt c⟩
  | 8 => ⟨k0_dev9 c, k0_dev9_lt c⟩
  | 9 => ⟨k0_dev10 c, k0_dev10_lt c⟩
  | 10 => ⟨k0_dev11 c, k0_dev11_lt c⟩
  | 11 => ⟨k0_dev12 c, k0_dev12_lt c⟩
  | 12 => ⟨k0_dev13 c, k0_dev13_lt c⟩
  | 13 => ⟨k0_dev14 c, k0_dev14_lt c⟩
  | 14 => ⟨k0_dev15 c, k0_dev15_lt c⟩
def rsDev (c : Dev nD) : Fin 15 → Dev nD
  | 0 => ⟨k0_dev16 c, k0_dev16_lt c⟩
  | 1 => ⟨k0_dev17 c, k0_dev17_lt c⟩
  | 2 => ⟨k0_dev18 c, k0_dev18_lt c⟩
  | 3 => ⟨k0_dev19 c, k0_dev19_lt c⟩
  | 4 => ⟨k0_dev20 c, k0_dev20_lt c⟩
  | 5 => ⟨k0_dev21 c, k0_dev21_lt c⟩
  | 6 => ⟨k0_dev22 c, k0_dev22_lt c⟩
  | 7 => ⟨k0_dev23 c, k0_dev23_lt c⟩
  | 8 => ⟨k0_dev24 c, k0_dev24_lt c⟩
  | 9 => ⟨k0_dev25 c, k0_dev25_lt c⟩
  | 10 => ⟨k0_dev26 c, k0_dev26_lt c⟩
  | 11 => ⟨k0_dev27 c, k0_dev27_lt c⟩
  | 12 => ⟨k0_dev28 c, k0_dev28_lt c⟩
  | 13 => ⟨k0_dev29 c, k0_dev29_lt c⟩
  | 14 => ⟨k0_dev30 c, k0_dev30_lt c⟩
def agDev (c : Dev nD) : Fin 15 → Dev nD
  | 0 => ⟨k0_dev31 c, k0_dev31_lt c⟩
  | 1 => ⟨k0_dev32 c, k0_dev32_lt c⟩
  | 2 => ⟨k0_dev33 c, k0_dev33_lt c⟩
  | 3 => ⟨k0_dev34 c, k0_dev34_lt c⟩
  | 4 => ⟨k0_dev35 c, k0_dev35_lt c⟩
  | 5 => ⟨k0_dev36 c, k0_dev36_lt c⟩
  | 6 => ⟨k0_dev37 c, k0_dev37_lt c⟩
  | 7 => ⟨k0_dev38 c, k0_dev38_lt c⟩
  | 8 => ⟨k0_dev39 c, k0_dev39_lt c⟩
  | 9 => ⟨k0_dev40 c, k0_dev40_lt c⟩
  | 10 => ⟨k0_dev41 c, k0_dev41_lt c⟩
  | 11 => ⟨k0_dev42 c, k0_dev42_lt c⟩
  | 12 => ⟨k0_dev43 c, k0_dev43_lt c⟩
  | 13 => ⟨k0_dev44 c, k0_dev44_lt c⟩
  | 14 => ⟨k0_dev45 c, k0_dev45_lt c⟩

theorem sigDev_eq : ∀ c i, sigDev c i = peer c i := by decide +kernel
theorem rsDev_eq : ∀ c i, rsDev c i = peer c i := by decide +kernel
theorem agDev_eq : ∀ c i, agDev c i = peer c i := by decide +kernel
theorem xOff_eq : ∀ (c : Dev nD) (i : Fin 15), k0_off1 c (BitVec.ofNat 32 (1 + i.val)) = ![32 * (peer c i).val, 0] := by
  decide +kernel

/-! ## The phases -/

/-- The operation type of the kernel's programs. -/
abbrev Op (F : FTy → Type) : Type → Type := TpuEff nD τ sig (Elt F) Λ₀ .tc

def opSignal (c : Dev nD) (i : Fin 15) : Op F PUnit := .semSignal (Dev.tc (sigDev c i) : Thread nD τ) barS (BitVec.toInt 1#32)
def opRsSend (c : Dev nD) (i : Fin 15) : Op F PUnit :=
  .enqueueDma (xRowsM c i) (.remote (Dev.tc (rsDev c i) : Thread nD τ) (slotM i.succ) (.dma (semAt cc0_scratch1 i)))
    (.dma (semAt cc0_scratch2 i)) (View.wordExact_bits rfl) ((View.wordExact_bits rfl).reshape _ _) ⟨⟨rfl, Or.inl rfl⟩, trivial⟩
def opRsRecv (c : Dev nD) (i : Fin 15) : Op F PUnit :=
  .waitDma2 (semAt cc0_scratch2 i) (xRowsM c i) (slotM i.succ) (View.wordExact_bits rfl) ((View.wordExact_bits rfl).reshape _ _)
def opAgSend (c : Dev nD) (i : Fin 15) : Op F PUnit :=
  .enqueueDma (oRowsM c) (.remote (Dev.tc (agDev c i) : Thread nD τ) (oRowsM c) (.dma (semAt cc0_scratch3 i)))
    (.dma (semAt cc0_scratch4 i)) (View.wordExact_bits rfl) (View.wordExact_bits rfl) ⟨⟨rfl, Or.inl rfl⟩, trivial⟩
def opAgRecv (c : Dev nD) (i : Fin 15) : Op F PUnit :=
  .waitDma2 (semAt cc0_scratch4 i) (oRowsM c) (oRowsM c) (View.wordExact_bits rfl) (View.wordExact_bits rfl)
def opRsDone (c : Dev nD) (i : Fin 15) : Op F PUnit :=
  .waitDma2 (semAt cc0_scratch1 i) (slotM i.succ) (xRowsM c i) ((View.wordExact_bits rfl).reshape _ _) (View.wordExact_bits rfl)
def opAgDone (c : Dev nD) (i : Fin 15) : Op F PUnit :=
  .waitDma2 (semAt cc0_scratch3 i) (oRowsM c) (oRowsM c) (View.wordExact_bits rfl) (View.wordExact_bits rfl)

/-- A device's own rows, its slot of the landing buffer, and the whole landing buffer, as loads and stores address them. -/
abbrev rRows (c : Dev nD) : Rect S512x512 := Rect.unit (s := S512x512) (k0_off2 c) S32x512.size (k0_off2_inb c)
abbrev rSlot : Rect S16x32x512 := Rect.unit (s := S16x32x512) ![0, 0, 0] S1x32x512.size inb_S16x32x512_S1x32x512_0_0_0
abbrev rAll : Rect S16x32x512 := Rect.unit (s := S16x32x512) ![0, 0, 0] S16x32x512.size inb_S16x32x512_S16x32x512_0_0_0

/-- The last part: the second exchange and every wait after it. -/
def gather (c : Dev nD) : Prog (Op F) PUnit :=
  opsL (opAgSend c) dist <| opsL (opAgRecv c) dist <| opsL (opRsDone c) dist <| opsL (opAgDone c) dist <| .ret ⟨⟩

/-- The middle part: the device's own contribution copied, the others' awaited, the sum stored. -/
def reduce (c : Dev nD) : Prog (Op F) PUnit :=
  .op (.load xM (rRows c).toLoadRect (View.loadsAt_vmem h_S32x512)) fun v : Vec F S32x512 .f32 =>
  .op (.load bM rSlot.toLoadRect (View.loadsAt_vmem h_S1x32x512)) fun _ : Vec F S1x32x512 .f32 =>
  .op (.store bM rSlot (k0_pay1 v) Finset.univ (View.stores_vmem_bits_univ h_S1x32x512 rfl) (.inl rfl)) fun _ =>
  opsL (opRsRecv c) dist <|
  .op (.load bM rAll.toLoadRect (View.loadsAt_vmem h_S16x32x512)) fun v : Vec F S16x32x512 .f32 =>
  .op (.load oM (rRows c).toLoadRect (View.loadsAt_vmem h_S32x512)) fun _ : Vec F S32x512 .f32 =>
  .op (.store oM (rRows c) (k0_pay2 v) Finset.univ (View.stores_vmem_bits_univ h_S32x512 rfl) (.inl rfl)) fun _ =>
  gather c

/-- The whole body on device `c`. -/
def bodyOn (c : Dev nD) : Prog (Op F) PUnit :=
  opsL (opSignal c) dist <| .op (.semWait barS (BitVec.toInt 15#32)) fun _ => opsL (opRsSend c) dist <| reduce c

set_option maxRecDepth 65536 in
/-- The printed body reads its device and runs the phases on it. -/
theorem body_eq : cc0_body (F := F) xM (Memref.isWhole_whole _) oM (Memref.isWhole_whole _) bM (Memref.isWhole_whole _)
    cc0_scratch1 cc0_scratch2 cc0_scratch3 cc0_scratch4 = .op .deviceId (bodyOn (F := F)) := by
  rw [cc0_body_eq_skeleton]
  chain_rfl

end Cert.KernelIdeal.AllReduce

end
-- ==== Proof.KernelIdeal.Data.lean ====
/-
# What the buffers hold, and their parts

`x` and the result are cut into sixteen groups of 32 rows, one per device; the landing buffer into sixteen slots of one
group each. `landed` is the landing buffer once every transfer of the first exchange has arrived: slot `s` of device `c`
holds rows `c` of the block of the device `s` places before `c`. `total` is the result, the same on every device: rows `q`
are the sum of device `q`'s landing buffer over its slots.

The geometry below says which elements each part has, that the parts are disjoint and cover their buffer, and what each
transfer and store leaves in its part.
-/
module

public import proofs.«01_k».proof.Proof.KernelIdeal.Form
public import Idealize.ShloMosaic.Lib.Pipeline.Value

@[expose] public section

noncomputable section

namespace Cert.KernelIdeal.AllReduce

open Cert.KernelIdeal Cert.KernelIdeal.Gen
open Idealize.ShloMosaic Idealize.ShloMosaic.TcCoe Idealize.SL.Sem

variable {F : FTy → Type} [FloatOps F]

/-! ## Devices around the mesh -/

/-- The device `s` places before `c`. -/
def back (c : Dev nD) (s : Fin 16) : Dev nD := ⟨(c.val + (16 - s.val)) % 16, Nat.mod_lt _ (by decide)⟩

theorem back_zero : ∀ c, back c 0 = c := by decide
theorem back_peer : ∀ c i, back (peer c i) i.succ = c := by decide
theorem peer_rev : ∀ c i, peer (peer c i) (Fin.rev i) = c := by decide
theorem rev_peer : ∀ c i, peer (peer c (Fin.rev i)) i = c := by decide
theorem peer_inj : ∀ c, Function.Injective (peer c) := by decide
/-- The devices other than `c` are its fifteen peers. -/
theorem erase_peers : ∀ c, (Finset.univ.erase c : Finset (Dev nD)) = Finset.univ.map ⟨peer c, peer_inj c⟩ := by decide
/-- The slots other than the first are the successors. -/
theorem erase_slots : (Finset.univ.erase 0 : Finset (Fin 16)) = Finset.univ.map ⟨Fin.succ, Fin.succ_injective 15⟩ := by
  decide

/-- The device `i + 1` places on, as a permutation of the devices. -/
def peerE (i : Fin 15) : Dev nD ≃ Dev nD := ⟨(peer · i), (peer · (Fin.rev i)), (peer_rev · i), (rev_peer · i)⟩

/-! ## Contents -/

theorem rowIn_lt (q : Dev nD) (r : Fin 32) : 32 * q.val + r.val < 512 := by
  have hq : q.val < 16 := q.isLt
  have := r.isLt
  omega

/-- The element of the block that is element `y` of group `q`. -/
def rowIn (q : Dev nD) (y : S32x512.Idx) : S512x512.Idx :=
  Shape.pair (⟨32 * q.val + (y 0).val, rowIn_lt q (y 0)⟩ : Fin 512) (y 1 : Fin 512)

/-- The row and lane of an element of the landing buffer. -/
def inSlot (j : S16x32x512.Idx) : S32x512.Idx := Shape.pair (j 1 : Fin 32) (j 2 : Fin 512)

/-- Device `c`'s landing buffer after the first exchange, from every device's block. -/
def landed (xs : Dev nD → Vec F S512x512 .f32) (c : Dev nD) : Vec F S16x32x512 .f32 :=
  fun j => xs (back c (j 0)) (rowIn c (inSlot j))

theorem group_lt (j : S512x512.Idx) : (j 0).val / 32 < nD := by
  have h : (j 0).val < 512 := (j 0).isLt
  show _ < 16; omega
theorem place_lt (j : S512x512.Idx) : (j 0).val % 32 < 32 := Nat.mod_lt _ (by decide)

/-- The group of a row, and the row's place in it. -/
def groupOf (j : S512x512.Idx) : Dev nD := ⟨(j 0).val / 32, group_lt j⟩
def placeOf (j : S512x512.Idx) : S32x512.Idx := Shape.pair (⟨(j 0).val % 32, place_lt j⟩ : Fin 32) (j 1 : Fin 512)

/-- The result: rows `q` are the sum over the slots of device `q`'s landing buffer. -/
def total (xs : Dev nD → Vec F S512x512 .f32) : Vec F S512x512 .f32 :=
  fun j => k0_pay2 (landed xs (groupOf j)) (placeOf j)

/-! ## Groups of rows -/

theorem rows_inb (q : Dev nD) : ∀ a, (![32 * q.val, 0] : Fin 2 → Nat) a + S32x512.size a ≤ S512x512.size a := by
  revert q; decide

/-- The elements of group `q`. -/
def rowSet (q : Dev nD) : Finset S512x512.Idx := (Rect.unit (s := S512x512) ![32 * q.val, 0] S32x512.size (rows_inb q)).set

theorem mem_rowSet {q : Dev nD} {j : S512x512.Idx} : j ∈ rowSet q ↔ groupOf j = q := by
  unfold rowSet
  rw [Rect.mem_set_unit, Fin.forall_fin_two]
  have h1 : (j 1).val < 512 := (j 1).isLt
  have hq : q.val < 16 := q.isLt
  constructor
  · rintro ⟨⟨h, h'⟩, -⟩
    refine Fin.ext (show (j 0).val / 32 = q.val from ?_)
    change 32 * q.val ≤ (j 0).val at h
    change (j 0).val < 32 * q.val + 32 at h'
    omega
  · rintro rfl
    refine ⟨⟨?_, ?_⟩, Nat.zero_le _, ?_⟩
    · show 32 * ((j 0).val / 32) ≤ (j 0).val; omega
    · show (j 0).val < 32 * ((j 0).val / 32) + 32; omega
    · show (j 1).val < 0 + 512; omega

theorem rowSet_disjoint (q q' : Dev nD) (h : q ≠ q') : Disjoint (rowSet q) (rowSet q') :=
  Finset.disjoint_left.mpr fun j hj hj' => h ((mem_rowSet.mp hj).symm.trans (mem_rowSet.mp hj'))

theorem rowSet_cover : (Finset.univ.biUnion rowSet : Finset S512x512.Idx) = Finset.univ :=
  Finset.eq_univ_iff_forall.mpr fun j => Finset.mem_biUnion.mpr ⟨groupOf j, Finset.mem_univ _, mem_rowSet.mpr rfl⟩

/-- A rectangle of 32 full rows that starts at group `q` is that group. -/
theorem rect_rowSet {off : Fin 2 → Nat} (inb : ∀ a, off a + S32x512.size a ≤ S512x512.size a) (q : Dev nD) (h : off = ![32 * q.val, 0]) :
    (Rect.unit (s := S512x512) off S32x512.size inb).set = rowSet q := by subst h; rfl

theorem xRows_set (c : Dev nD) (i : Fin 15) : (xRowsM c i).view.set = rowSet (peer c i) :=
  (View.set_slice_whole cc0_stg0_0 _).trans (rect_rowSet _ _ (xOff_eq c i))
theorem oRows_set (c : Dev nD) : (oRowsM c).view.set = rowSet c :=
  (View.set_slice_whole cc0_stg1_0 _).trans (rect_rowSet _ _ (k0_off3_eq c))
theorem xAccess_set (c : Dev nD) : (xM.access (rRows c)).set = rowSet c :=
  (View.set_slice_whole cc0_stg0_0 _).trans (rect_rowSet _ _ (k0_off2_eq c))
theorem oAccess_set (c : Dev nD) : (oM.access (rRows c)).set = rowSet c :=
  (View.set_slice_whole cc0_stg1_0 _).trans (rect_rowSet _ _ (k0_off2_eq c))

/-- Where row `r` of a rectangle of 32 full rows starting at group `q` is. -/
theorem rect_rowIn {off : Fin 2 → Nat} (inb : ∀ a, off a + S32x512.size a ≤ S512x512.size a) (q : Dev nD) (h : off = ![32 * q.val, 0])
    (y : S32x512.Idx) : (Rect.unit (s := S512x512) off S32x512.size inb).emb y = rowIn q y := by
  subst h
  funext a; apply Fin.ext
  revert a; rw [Fin.forall_fin_two]
  refine ⟨?_, ?_⟩
  · show 32 * q.val + 1 * (y 0).val = 32 * q.val + (y 0).val; omega
  · show 0 + 1 * (y 1).val = (y 1).val; omega

theorem groupOf_rowIn (q : Dev nD) (y : S32x512.Idx) : groupOf (rowIn q y) = q := by
  have hr : (y 0).val < 32 := (y 0).isLt
  exact Fin.ext (show (32 * q.val + (y 0).val) / 32 = q.val by omega)

theorem placeOf_rowIn (q : Dev nD) (y : S32x512.Idx) : placeOf (rowIn q y) = y := by
  have hr : (y 0).val < 32 := (y 0).isLt
  funext a; apply Fin.ext
  revert a; rw [Fin.forall_fin_two]
  exact ⟨show (32 * q.val + (y 0).val) % 32 = (y 0).val by omega, rfl⟩

theorem total_rowIn (xs : Dev nD → Vec F S512x512 .f32) (q : Dev nD) (y : S32x512.Idx) :
    total xs (rowIn q y) = k0_pay2 (landed xs q) y := by
  unfold total
  rw [groupOf_rowIn, placeOf_rowIn]

/-! ## Slots -/

/-- The elements of slot `s`. -/
def slotSet (s : Fin 16) : Finset S16x32x512.Idx := (slotM s).view.set

theorem slot_rect (s : Fin 16) : slotSet s = (Rect.unit (s := S16x32x512) ![s.val, 0, 0] S1x32x512.size (slot_inb s)).set :=
  (View.set_reshape _ _).trans (View.set_slice_whole cc0_scratch0 _)

theorem mem_slotSet {s : Fin 16} {j : S16x32x512.Idx} : j ∈ slotSet s ↔ j 0 = s := by
  rw [slot_rect, Rect.mem_set_unit]
  have h1 : (j 1).val < 32 := (j 1).isLt
  have h2 : (j 2).val < 512 := (j 2).isLt
  constructor
  · intro h
    have h0 := h 0
    change s.val ≤ (j 0).val ∧ (j 0).val < s.val + 1 at h0
    exact Fin.ext (by omega)
  · rintro rfl a
    match a with
    | 0 => exact ⟨le_refl _, Nat.lt_succ_self _⟩
    | 1 => exact ⟨Nat.zero_le _, by show (j 1).val < 0 + 32; omega⟩
    | 2 => exact ⟨Nat.zero_le _, by show (j 2).val < 0 + 512; omega⟩

theorem slotSet_disjoint (s s' : Fin 16) (h : s ≠ s') : Disjoint (slotSet s) (slotSet s') :=
  Finset.disjoint_left.mpr fun j hj hj' => h ((mem_slotSet.mp hj).symm.trans (mem_slotSet.mp hj'))

theorem slotSet_cover : (Finset.univ.biUnion slotSet : Finset S16x32x512.Idx) = Finset.univ :=
  Finset.eq_univ_iff_forall.mpr fun j => Finset.mem_biUnion.mpr ⟨j 0, Finset.mem_univ _, mem_slotSet.mpr rfl⟩

theorem slotAccess_set : (bM.access rSlot).set = slotSet 0 :=
  (View.set_slice_whole cc0_scratch0 _).trans (slot_rect 0).symm

/-- The element of slot `s` at row `r`, lane `l`. -/
def slotIn (s : Fin 16) (y : S32x512.Idx) : S16x32x512.Idx := Fin.cons s y

theorem slot_emb (s : Fin 16) (y : S32x512.Idx) : (slotM s).view.emb y = slotIn s y := by
  have hy : Shape.reshapeEquiv (s := S1x32x512) (s' := S32x512) squeezes_S1x32x512_S32x512.numel_eq y = Fin.cons ⟨0, Nat.one_pos⟩ y :=
    Shape.reshapeEquiv_cons_one _ y
  show (Rect.unit (s := S16x32x512) ![s.val, 0, 0] S1x32x512.size (slot_inb s)).emb
    (Shape.reshapeEquiv (s := S1x32x512) (s' := S32x512) squeezes_S1x32x512_S32x512.numel_eq y) = _
  rw [hy]
  funext a; apply Fin.ext
  match a with
  | 0 => show s.val + 1 * 0 = s.val; omega
  | 1 => show 0 + 1 * (y 0).val = (y 0).val; omega
  | 2 => show 0 + 1 * (y 1).val = (y 1).val; omega

theorem landed_slotIn (xs : Dev nD → Vec F S512x512 .f32) (c : Dev nD) (s : Fin 16) (y : S32x512.Idx) :
    landed xs c (slotIn s y) = xs (back c s) (rowIn c y) := by
  have hy : inSlot (slotIn s y) = y := Shape.pair_eta (d := S32x512.size) y
  unfold landed
  rw [hy]; rfl

/-! ## What the transfers and stores leave -/

/-- The first exchange: device `c`'s rows for the device `i + 1` places on, landed in that device's slot, are what
    `landed` has there. -/
theorem rs_lands (xs : Dev nD → Vec F S512x512 .f32) (c : Dev nD) (i : Fin 15) (f : Vec F S16x32x512 .f32) :
    ∀ j ∈ slotSet i.succ, (slotM i.succ).view.write (Elt F) f ((xRowsM c i).view.read (Elt F) (xs c)) Finset.univ j
      = landed xs (peer c i) j := by
  intro j hj
  obtain ⟨y, -, rfl⟩ := Finset.mem_map.mp hj
  rw [View.write_emb_of_mem _ _ (Finset.mem_univ y), slot_emb]
  rw [landed_slotIn, back_peer]
  exact congrArg (xs c) (rect_rowIn _ _ (xOff_eq c i) y)

/-- The device's own rows, copied to its first slot, are what `landed` has there. -/
theorem own_lands (xs : Dev nD → Vec F S512x512 .f32) (c : Dev nD) (f : Vec F S16x32x512 .f32) :
    ∀ j ∈ slotSet 0, (bM.access rSlot).write (Elt F) f (k0_pay1 (xM.view.readAt (Elt F) (rRows c).toLoadRect (xs c))) Finset.univ j
      = landed xs c j := by
  intro j hj
  rw [← slotAccess_set] at hj
  obtain ⟨y, -, rfl⟩ := Finset.mem_map.mp hj
  rw [View.write_emb_of_mem _ _ (Finset.mem_univ y)]
  have hz : ∃ z : S32x512.Idx, z = fun a : Fin 2 => y a.succ := ⟨_, rfl⟩
  obtain ⟨z, hz⟩ := hz
  have h : (bM.access rSlot).emb y = slotIn 0 z := by
    subst hz
    funext a; apply Fin.ext
    have h0 : (y 0).val < 1 := (y 0).isLt
    match a with
    | 0 => show 0 + 1 * (y 0).val = 0; omega
    | 1 => show 0 + 1 * (y 1).val = (y 1).val; omega
    | 2 => show 0 + 1 * (y 2).val = (y 2).val; omega
  have hv : k0_pay1 (xM.view.readAt (Elt F) (rRows c).toLoadRect (xs c)) y
      = xM.view.readAt (Elt F) (rRows c).toLoadRect (xs c) z := by
    unfold k0_pay1
    rw [shapeCast_self, hz]
    exact shapeCast_addUnit_apply S32x512.size _ _ y
  rw [h, landed_slotIn, back_zero, ← rect_rowIn _ _ (k0_off2_eq c)]
  exact hv

/-- The sum of the landing buffer, stored to the device's rows of the result, is what `total` has there. -/
theorem sum_stored (xs : Dev nD → Vec F S512x512 .f32) (c : Dev nD) (f : Vec F S512x512 .f32) :
    ∀ j ∈ rowSet c, (oM.access (rRows c)).write (Elt F) f (k0_pay2 (landed xs c)) Finset.univ j = total xs j := by
  intro j hj
  rw [← oAccess_set] at hj
  obtain ⟨y, -, rfl⟩ := Finset.mem_map.mp hj
  rw [View.write_emb_of_mem _ _ (Finset.mem_univ y)]
  have h : (oM.access (rRows c)).emb y = rowIn c y := rect_rowIn _ _ (k0_off2_eq c) y
  rw [h]
  exact (total_rowIn xs c y).symm

/-- The second exchange: rows of the result written over the same rows elsewhere. -/
theorem ag_lands (c : Dev nD) (f g : Vec F S512x512 .f32) :
    ∀ j ∈ rowSet c, (oRowsM c).view.write (Elt F) f ((oRowsM c).view.read (Elt F) g) Finset.univ j = g j := by
  intro j hj
  rw [← oRows_set] at hj
  obtain ⟨y, -, rfl⟩ := Finset.mem_map.mp hj
  rw [View.write_emb_of_mem _ _ (Finset.mem_univ y)]
  rfl

/-- The load of the whole landing buffer reads it. -/
theorem read_all (f : Vec F S16x32x512 .f32) : bM.view.readAt (Elt F) rAll.toLoadRect f = f :=
  Memref.readAt_unit_zero (Elt F) cc0_scratch0 (funext fun a => by fin_cases a <;> rfl) _ f

end Cert.KernelIdeal.AllReduce

end
-- ==== Proof.KernelIdeal.Protocol.lean ====
/-
# Who hands what to whom

The kernel's sixteen devices meet on 61 semaphores each: the barrier and, for each of the fifteen distances, the two
semaphores of each exchange (`chan`: 0 the first exchange's send, 1 its arrival, 2 the second's send, 3 its arrival).
Each is a cell of the rounds library that runs one round.

* The barrier of `c` is raised once by each peer. Peer `peer c j` hands over its slot `j + 1` and its rows `c` of the
  result: the two places `c` writes on that peer.
* An arrival hands its device the part written, at its contents.
* A send's completion hands back the part read.

The schedule says so, `owed` is what a device owes the others at launch, and the levels put the barrier below the first
arrivals and those below the second ones, so that every wait is for something that does not wait on it.
-/
module

public import proofs.«01_k».proof.Proof.KernelIdeal.Data
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's rounds and the kernel's own, whose duties are numbered by distance. -/
abbrev UP : Type := URounds (GSem nD τ sig) Unit
abbrev UK : Type := URounds (GSem nD τ sig) (Fin 15)
abbrev UU : Type := UP × UK

local notation "𝕄" => MT nD τ sig Unit (Elt F) ℕ UU ℕ

abbrev EP : Emb UP (MT nD τ sig Unit (Elt F) ℕ UU ℕ) := embL
abbrev ER : Emb UK (MT nD τ sig Unit (Elt F) ℕ UU ℕ) := embR

/-! ## Cells -/

/-- The four semaphore arrays. -/
def arrays : Fin 4 → DmaSems sig S16
  | 0 => cc0_scratch1
  | 1 => cc0_scratch2
  | 2 => cc0_scratch3
  | 3 => cc0_scratch4

/-- A semaphore of an array for a distance. -/
abbrev Chan : Type := Fin 4 × Fin 15

/-- The semaphores the kernel uses on a device: the arrays' by channel, and the barrier. -/
abbrev chanSem (k : Chan) : SemLoc sig := .dma (semAt (arrays k.1) k.2)
abbrev semOf : Option Chan → SemLoc sig
  | none => .reg barS
  | some k => chanSem k

theorem chanSem_inj : Function.Injective chanSem := by decide +kernel
theorem semOf_inj : Function.Injective semOf
  | none, none, _ => rfl
  | none, some _, h => nomatch h
  | some _, none, h => nomatch h
  | some _, some _, h => congrArg some (chanSem_inj h)

/-- The barrier's cell of a device, a channel's cell, and either. -/
abbrev barCell (c : Dev nD) : GSem nD τ sig := ((c : Thread nD τ), .reg barS)
abbrev chanCell (c : Dev nD) (a : Fin 4) (i : Fin 15) : GSem nD τ sig := ((c : Thread nD τ), chanSem (a, i))
abbrev cellAt (ck : Dev nD × Option Chan) : GSem nD τ sig := ((ck.1 : Thread nD τ), semOf ck.2)

theorem cellAt_inj : Function.Injective cellAt := by
  rintro ⟨c, k⟩ ⟨c', k'⟩ h
  have h1 : c = c' := congrArg (fun g : GSem nD τ sig => g.1.1) h
  have h2 : k = k' := semOf_inj (congrArg Prod.snd h)
  rw [h1, h2]

/-- Which of the kernel's semaphores a semaphore is. -/
def which (sm : SemLoc sig) : Option (Option Chan) := Function.partialInv semOf sm

theorem which_bar : which (.reg barS) = some none := Function.partialInv_left semOf_inj none
theorem which_chan (k : Chan) : which (chanSem k) = some (some k) := Function.partialInv_left semOf_inj (some k)
theorem which_other {sm : SemLoc sig} (h : ∀ k, semOf k ≠ sm) : which sm = none := by
  unfold which Function.partialInv
  exact dif_neg fun ⟨k, hk⟩ => h k hk

/-! ## Parts of the buffers, held -/

/-- The units a transfer of 32 rows credits. -/
def N : ℕ := 2048
theorem N_pos : 0 < N := by decide
theorem slot_credit (s : Fin 16) : (slotM s).view.dmaCredit = N :=
  View.dmaCredit_closed _ S32x512 rfl cc0_scratch0.idx rfl N (by decide +kernel)
theorem xRows_credit (c : Dev nD) (i : Fin 15) : (xRowsM c i).view.dmaCredit = N :=
  View.dmaCredit_closed _ S32x512 rfl cc0_stg0_0.idx rfl N (by decide +kernel)
theorem oRows_credit (c : Dev nD) : (oRowsM c).view.dmaCredit = N :=
  View.dmaCredit_closed _ S32x512 rfl cc0_stg1_0.idx rfl N (by decide +kernel)

abbrev xLoc (c : Dev nD) : Loc nD τ sig := (c : Thread nD τ).loc cc0_stg0_0
abbrev oLoc (c : Dev nD) : Loc nD τ sig := (c : Thread nD τ).loc cc0_stg1_0
abbrev bLoc (c : Dev nD) : Loc nD τ sig := (c : Thread nD τ).loc cc0_scratch0

/-- Rows `q` of device `c`'s staged `x` and (at a share) of its staged result, and slot `s` of its landing buffer. -/
def xPart (c q : Dev nD) (f : Vec F S512x512 .f32) : sProp 𝕄 := xLoc c ↦[(rowSet q : Finset (Idx (xLoc c)))]{fullShare} f
def oPart (c q : Dev nD) (s : PosShare TreeShare) (f : Vec F S512x512 .f32) : sProp 𝕄 :=
  oLoc c ↦[(rowSet q : Finset (Idx (oLoc c)))]{s} f
def bPart (c : Dev nD) (s : Fin 16) (f : Vec F S16x32x512 .f32) : sProp 𝕄 :=
  bLoc c ↦[(slotSet s : Finset (Idx (bLoc c)))]{fullShare} f

omit [FloatOps F] in
instance xPart_storable (c q : Dev nD) (f : Vec F S512x512 .f32) : BI.Storable (upEmb : UEmb _ 𝕄) (xPart c q f) := by
  unfold xPart; infer_instance
omit [FloatOps F] in
instance oPart_storable (c q : Dev nD) (s : PosShare TreeShare) (f : Vec F S512x512 .f32) :
    BI.Storable (upEmb : UEmb _ 𝕄) (oPart c q s f) := by unfold oPart; infer_instance
omit [FloatOps F] in
instance bPart_storable (c : Dev nD) (s : Fin 16) (f : Vec F S16x32x512 .f32) :
    BI.Storable (upEmb : UEmb _ 𝕄) (bPart c s f) := by unfold bPart; infer_instance

omit [FloatOps F] in
/-- One device and its fifteen peers are all the devices. -/
theorem split_dev (c : Dev nD) (Φ : Dev nD → sProp 𝕄) :
    bigSep Finset.univ Φ = iprop(Φ c ∗ bigSep Finset.univ fun i : Fin 15 => Φ (peer c i)) := by
  rw [bigSep_erase (Finset.mem_univ c), erase_peers c, bigSep_map]; rfl
omit [FloatOps F] in
/-- The first slot and the fifteen others are all the slots. -/
theorem split_slot (Φ : Fin 16 → sProp 𝕄) :
    bigSep Finset.univ Φ = iprop(Φ 0 ∗ bigSep Finset.univ fun i : Fin 15 => Φ i.succ) := by
  rw [bigSep_erase (Finset.mem_univ 0), erase_slots, bigSep_map]; rfl
omit [FloatOps F] in
/-- The distances in the opposite order. -/
theorem rev_dist (Φ : Fin 15 → sProp 𝕄) : bigSep Finset.univ Φ = bigSep Finset.univ fun i : Fin 15 => Φ (Fin.rev i) :=
  bigSep_univ_equiv Fin.revPerm Φ

omit [FloatOps F] in
/-- A whole buffer is its parts: the device's own rows and those of its peers, or the slots. -/
theorem x_parts (c : Dev nD) (f : Vec F S512x512 .f32) :
    (xLoc c ↦{fullShare} f : sProp 𝕄) = iprop(xPart c c f ∗ bigSep Finset.univ fun i : Fin 15 => xPart c (peer c i) f) := by
  rw [← split_dev c fun q => xPart c q f]
  exact (congrArg (fun S => (xLoc c ↦[S]{fullShare} f : sProp 𝕄)) rowSet_cover.symm).trans
    (pointsTo_biUnion (ℓ := xLoc c) Finset.univ rowSet fun q _ q' _ h => rowSet_disjoint q q' h)
omit [FloatOps F] in
theorem o_parts (c : Dev nD) (f : Vec F S512x512 .f32) :
    (oLoc c ↦{fullShare} f : sProp 𝕄)
      = iprop(oPart c c fullShare f ∗ bigSep Finset.univ fun i : Fin 15 => oPart c (peer c i) fullShare f) := by
  rw [← split_dev c fun q => oPart c q fullShare f]
  exact (congrArg (fun S => (oLoc c ↦[S]{fullShare} f : sProp 𝕄)) rowSet_cover.symm).trans
    (pointsTo_biUnion (ℓ := oLoc c) Finset.univ rowSet fun q _ q' _ h => rowSet_disjoint q q' h)
omit [FloatOps F] in
theorem b_parts (c : Dev nD) (f : Vec F S16x32x512 .f32) :
    (bLoc c ↦{fullShare} f : sProp 𝕄) = iprop(bPart c 0 f ∗ bigSep Finset.univ fun i : Fin 15 => bPart c i.succ f) := by
  rw [← split_slot fun s => bPart c s f]
  exact (congrArg (fun S => (bLoc c ↦[S]{fullShare} f : sProp 𝕄)) slotSet_cover.symm).trans
    (pointsTo_biUnion (ℓ := bLoc c) Finset.univ slotSet fun q _ q' _ h => slotSet_disjoint q q' h)

omit [FloatOps F] in
theorem o_peers_rev (c : Dev nD) (f : Vec F S512x512 .f32) :
    (bigSep Finset.univ fun i : Fin 15 => oPart c (peer c i) fullShare f : sProp 𝕄)
      = bigSep Finset.univ fun i : Fin 15 => oPart c (peer c (Fin.rev i)) fullShare f := rev_dist _

/-- A transfer of the second exchange reads its rows at one of fifteen shares. -/
abbrev share (i : Fin 15) : PosShare TreeShare := Transfers.dealOf fullShare Finset.univ i

omit [FloatOps F] in
theorem o_shares (c : Dev nD) (f : Vec F S512x512 .f32) :
    (oPart c c fullShare f : sProp 𝕄) = bigSep Finset.univ fun i : Fin 15 => oPart c c (share i) f :=
  Transfers.pointsTo_deal Finset.univ Finset.univ_nonempty fullShare

/-! ## The schedule -/

variable (xs : Dev nD → Vec F S512x512 .f32)

/-- What peer `j` of `c` hands it at the barrier. -/
def barPay (c : Dev nD) (j : Fin 15) : sProp 𝕄 :=
  iprop((∃ f, bPart (peer c j) j.succ f) ∗ ∃ f, oPart (peer c j) c fullShare f)

/-- What a channel's completion hands device `c`. -/
def chanPay (c : Dev nD) (i : Fin 15) : Fin 4 → sProp 𝕄
  | 0 => xPart c (peer c i) (xs c)
  | 1 => bPart c i.succ (landed xs c)
  | 2 => oPart c c (share i) (total xs)
  | 3 => oPart c (peer c (Fin.rev i)) fullShare (total xs)

instance barPay_storable (c : Dev nD) (j : Fin 15) : BI.Storable (upEmb : UEmb _ 𝕄) (barPay (F := F) c j) := by
  unfold barPay; infer_instance
instance chanPay_storable (c : Dev nD) (i : Fin 15) (a : Fin 4) : BI.Storable (upEmb : UEmb _ 𝕄) (chanPay xs c i a) := by
  unfold chanPay; split <;> infer_instance

def dutiesOf : Option (Option Chan) → Finset (Fin 15)
  | none => ∅
  | some none => Finset.univ
  | some (some _) => {0}
def amountOf : Option (Option Chan) → ℕ
  | some none => 1
  | _ => N
def payOf (c : Dev nD) (d : Fin 15) : Option (Option Chan) → sProp 𝕄
  | none => iprop(emp)
  | some none => barPay c d
  | some (some k) => chanPay xs c k.2 k.1

/-- The schedule: every cell runs one round, the barrier's of fifteen units, a channel's of one transfer. -/
def sched : Rounds.Schedule (GSem nD τ sig) (Fin 15) 𝕄 where
  duties g r := if r = 0 then dutiesOf (which g.2) else ∅
  amount g _ _ := amountOf (which g.2)
  payload g _ d := payOf xs g.1.1 d (which g.2)
  amount_pos g _ _ _ := by
    show 0 < amountOf (which g.2)
    unfold amountOf; split
    · exact Nat.one_pos
    · exact N_pos

instance sched_storable (g : GSem nD τ sig) (r : ℕ) (d : Fin 15) : BI.Storable (upEmb : UEmb _ 𝕄) ((sched xs).payload g r d) := by
  show BI.Storable upEmb (payOf xs g.1.1 d (which g.2))
  unfold payOf; split <;> infer_instance

theorem duties_bar (c : Dev nD) : (sched xs).duties (barCell c) 0 = Finset.univ := by
  dsimp only [sched]; rw [if_pos rfl, which_bar]; rfl
theorem duties_chan (c : Dev nD) (a : Fin 4) (i : Fin 15) : (sched xs).duties (chanCell c a i) 0 = {0} := by
  dsimp only [sched]; rw [if_pos rfl, which_chan]; rfl
theorem duties_later (g : GSem nD τ sig) : ∀ r, 1 ≤ r → (sched xs).duties g r = ∅ :=
  fun r hr => by dsimp only [sched]; exact if_neg (by omega)
theorem amount_bar (c : Dev nD) (d : Fin 15) : (sched xs).amount (barCell c) 0 d = 1 := by
  dsimp only [sched]; rw [which_bar]; rfl
theorem amount_chan (c : Dev nD) (a : Fin 4) (i d : Fin 15) : (sched xs).amount (chanCell c a i) 0 d = N := by
  dsimp only [sched]; rw [which_chan]; rfl
theorem payload_bar (c : Dev nD) (d : Fin 15) : (sched xs).payload (barCell c) 0 d = barPay c d := by
  dsimp only [sched]; rw [which_bar]; rfl
theorem payload_chan (c : Dev nD) (a : Fin 4) (i d : Fin 15) : (sched xs).payload (chanCell c a i) 0 d = chanPay xs c i a := by
  dsimp only [sched]; rw [which_chan]; rfl
theorem expect_bar (c : Dev nD) : (sched xs).expect (barCell c) 0 = 15 := by
  unfold Schedule.expect Schedule.amountOf
  rw [duties_bar, Finset.sum_congr rfl fun d _ => amount_bar xs c d, Finset.sum_const]; rfl
theorem expect_chan (c : Dev nD) (a : Fin 4) (i : Fin 15) : (sched xs).expect (chanCell c a i) 0 = N := by
  unfold Schedule.expect Schedule.amountOf; rw [duties_chan, Finset.sum_singleton, amount_chan]
theorem rest_bar (c : Dev nD) : bigSep ((sched xs).duties (barCell c) 0 \ ∅) (fun d => (sched xs).payload (barCell c) 0 d)
    = bigSep Finset.univ fun j : Fin 15 => barPay c j := by
  rw [Finset.sdiff_empty, duties_bar]; exact bigSep_congr fun d _ => payload_bar xs c d
theorem rest_chan (c : Dev nD) (a : Fin 4) (i : Fin 15) :
    bigSep ((sched xs).duties (chanCell c a i) 0 \ ∅) (fun d => (sched xs).payload (chanCell c a i) 0 d) = chanPay xs c i a := by
  rw [Finset.sdiff_empty, duties_chan, bigSep_singleton, payload_chan]

/-! ## What a device owes, and the levels -/

/-- What device `c` owes at a distance: a unit of the peer's barrier, and the two arrivals there. -/
abbrev owedBar (c : Dev nD) (i : Fin 15) : CellTallies nD τ sig Unit := tallyAt (barCell (peer c i)) () 1
abbrev owedArr (a : Fin 4) (c : Dev nD) (i : Fin 15) : CellTallies nD τ sig Unit := tallyAt (chanCell (peer c i) a i) () N

/-- The sum over a list of distances. -/
abbrev over (l : List (Fin 15)) (D : Fin 15 → CellTallies nD τ sig Unit) : CellTallies nD τ sig Unit := (l.map D).sum

/-- What device `c` owes before its second exchange, before its first, and at launch. -/
abbrev owed2 (c : Dev nD) : CellTallies nD τ sig Unit := over dist (owedArr 3 c)
abbrev owed1 (c : Dev nD) : CellTallies nD τ sig Unit := over dist (owedArr 1 c) + owed2 c
abbrev owed (c : Dev nD) : CellTallies nD τ sig Unit := over dist (owedBar c) + owed1 c

theorem over_cons (i : Fin 15) (l : List (Fin 15)) (D : Fin 15 → CellTallies nD τ sig Unit) (O : CellTallies nD τ sig Unit) :
    over (i :: l) D + O = (over l D + O) + D i := by
  unfold over; rw [List.map_cons, List.sum_cons, add_comm (D i), add_right_comm]
theorem over_nil (D : Fin 15 → CellTallies nD τ sig Unit) (O : CellTallies nD τ sig Unit) : over [] D + O = O := by
  unfold over; rw [List.map_nil, List.sum_nil, zero_add]
theorem over_dist (D : Fin 15 → CellTallies nD τ sig Unit) : over dist D = ∑ i, D i := by
  unfold over; rw [Fin.sum_univ_def]; rfl
theorem over_pos {l : List (Fin 15)} {D : Fin 15 → CellTallies nD τ sig Unit} {g : GSem nD τ sig} {u : Unit}
    (h : 0 < over l D g u) : ∃ i, 0 < D i g u := by
  induction l with
  | nil => exact absurd h (Nat.lt_irrefl 0)
  | cons i l ih =>
    unfold over at h; rw [List.map_cons, List.sum_cons] at h
    exact (Pipeline.add_pos_cases h).elim (fun h => ⟨i, h⟩) ih

/-- Levels: the barrier 1, the first arrivals 2, the second arrivals 3, anything else 0. -/
def levelOf : Option (Option Chan) → ℕ
  | some none => 1
  | some (some (1, _)) => 2
  | some (some (3, _)) => 3
  | _ => 0
def L (g : GSem nD τ sig) : Finset Unit := if g.1.2 = .tc then {()} else ∅
def lv (g : GSem nD τ sig) (_ : Unit) : ℕ := levelOf (which g.2)
theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _

/-- What is owed sits above level `n`. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') :=
  fun g u hg => (Pipeline.add_pos_cases hg).elim (h g u) (h' g u)
theorem above_over {n : ℕ} {l : List (Fin 15)} {D : Fin 15 → CellTallies nD τ sig Unit} (h : ∀ i, Above n (D i)) :
    Above n (over l D) := fun g u hg => let ⟨i, hi⟩ := over_pos hg; h i g u hi
theorem above_tally {n k : ℕ} {c : Dev nD} {sm : SemLoc sig} (h : n < levelOf (which sm)) :
    Above n (tallyAt ((c : Thread nD τ), sm) () k) := fun g u hg => by
  obtain ⟨rfl, rfl⟩ := Pipeline.tallyAt_pos hg
  exact ⟨mem_L _ _ _, h⟩

theorem above_owed2 (c : Dev nD) : Above 2 (owed2 c) :=
  above_over fun i => above_tally (by rw [which_chan]; exact Nat.lt_succ_self 2)
theorem above_mono {n n' : ℕ} (h : n ≤ n') {O : CellTallies nD τ sig Unit} (hO : Above n' O) : Above n O :=
  fun g u hg => ⟨(hO g u hg).1, lt_of_le_of_lt h (hO g u hg).2⟩
theorem above_owed1 (c : Dev nD) : Above 1 (owed1 c) :=
  above_add (above_over fun i => above_tally (by rw [which_chan]; exact Nat.lt_succ_self 1)) (above_mono (by decide) (above_owed2 c))
theorem above_owed (c : Dev nD) : Above 0 (owed c) :=
  above_add (above_over fun i => above_tally (by rw [which_bar]; decide)) (above_mono (by decide) (above_owed1 c))

/-- A device may wait on a semaphore below everything it owes. -/
theorem mayWait {c : Dev nD} {sm : SemLoc sig} {O : CellTallies nD τ sig Unit} (h : Above (levelOf (which sm)) O) :
    (levAts L lv : sProp 𝕄) ⊢ MayWait (c : Thread nD τ) sm () O :=
  Pipeline.mayWait_of_levAts (mem_L c sm ()) h

end Cert.KernelIdeal.AllReduce

end
-- ==== Proof.KernelIdeal.Steps.lean ====
/-
# One operation of each phase

`wp_phase` runs a phase from one step of it, at a symbolic distance: what the step takes and gives at a distance is taken
and given for all fifteen, and what all steps share (what the device still owes) is carried along the list. The steps
follow: the signal, the two exchanges' transfers, and the wait on a channel, which serves all four groups of waits.
-/
module

public import proofs.«01_k».proof.Proof.KernelIdeal.Protocol

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs to `Q`. -/
abbrev wpOn (c : Dev nD) (p : Prog (Op F) PUnit) (Q : PUnit → sProp 𝕄) : sProp 𝕄 :=
  wp frame (wpE (defs₀ (F := F)) 𝒱₀ (c : Thread nD τ) none) Set.univ p Q

/-! ## A phase from its step -/

/-- A phase over a list of distances, from its step. -/
theorem wp_opsL (c : Dev nD) {f : Fin 15 → Op F PUnit} {Q : PUnit → sProp 𝕄} (C : sProp 𝕄) [BI.Persistent C]
    (P R : Fin 15 → sProp 𝕄) (J : List (Fin 15) → sProp 𝕄)
    (step : ∀ i l (k : Prog (Op F) PUnit), iprop(C ∗ P i ∗ J (i :: l))
      ⊢ iprop(((R i ∗ J l) -∗ wpOn c k Q) -∗ wpOn c (.op (f i) fun _ => k) Q))
    (k : Prog (Op F) PUnit) : ∀ l : List (Fin 15),
    iprop(C ∗ bigSepL l P ∗ J l) ⊢ iprop(((bigSepL l R ∗ J []) -∗ wpOn c k Q) -∗ wpOn c (opsL f l k) Q) := by
  intro l
  induction l with
  | nil =>
    unfold opsL
    iintro ⟨-, HP, HJ⟩ Hk
    iapply Hk
    isplitl [HP]; · iexact HP
    iexact HJ
  | cons i l ih =>
    unfold opsL
    rw [show bigSepL (i :: l) P = iprop(P i ∗ bigSepL l P) from bigSepL_cons i l P,
      show bigSepL (i :: l) R = iprop(R i ∗ bigSepL l R) from bigSepL_cons i l R]
    iintro ⟨#HC, ⟨HP, HPs⟩, HJ⟩ Hk
    iapply (step i l (opsL f l k)) $$ [HP HJ]
    · isplitr; · iexact HC
      isplitl [HP]; · iexact HP
      iexact HJ
    iintro ⟨HR, HJ⟩
    iapply ih $$ [HPs HJ]
    · isplitr; · iexact HC
      isplitl [HPs]; · iexact HPs
      iexact HJ
    iintro ⟨HRs, HJ⟩
    iapply Hk
    isplitl [HR HRs]
    · isplitl [HR]; · iexact HR
      iexact HRs
    iexact HJ

/-- A phase: all fifteen distances from the step at one. -/
theorem wp_phase (c : Dev nD) {f : Fin 15 → Op F PUnit} {Q : PUnit → sProp 𝕄} (C : sProp 𝕄) [BI.Persistent C]
    (P R : Fin 15 → sProp 𝕄) (J : List (Fin 15) → sProp 𝕄)
    (step : ∀ i l (k : Prog (Op F) PUnit), iprop(C ∗ P i ∗ J (i :: l))
      ⊢ iprop(((R i ∗ J l) -∗ wpOn c k Q) -∗ wpOn c (.op (f i) fun _ => k) Q))
    (k : Prog (Op F) PUnit) :
    iprop(C ∗ bigSep Finset.univ P ∗ J dist)
      ⊢ iprop(((bigSep Finset.univ R ∗ J []) -∗ wpOn c k Q) -∗ wpOn c (opsL f dist k) Q) := by
  rw [bigSep_univ_eq_bigSepL dist (by decide) (by decide) P, bigSep_univ_eq_bigSepL dist (by decide) (by decide) R]
  exact wp_opsL c C P R J step k dist

/-! ## What every step may use -/

variable (xs : Dev nD → Vec F S512x512 .f32) (K : Dev nD × Option Chan → ℕ)

/-- Every cell's invariant, that each has reached its round, and the levels. -/
def records : sProp 𝕄 :=
  iprop((bigSep Finset.univ fun ck : Dev nD × Option Chan => cellInv ER (sched xs) (K ck) (cellAt ck))
    ∗ bigSep Finset.univ fun ck : Dev nD × Option Chan => reached ER (cellAt ck) 0)
instance records_persistent : BI.Persistent (records xs K) := by unfold records; infer_instance

def known : sProp 𝕄 := iprop(records xs K ∗ levAts L lv)
instance known_persistent : BI.Persistent (known xs K) := by unfold known; infer_instance

theorem inv_at (ck : Dev nD × Option Chan) : known xs K ⊢ cellInv ER (sched xs) (K ck) (cellAt ck) := by
  unfold known records
  iintro ⟨⟨#H, -⟩, -⟩
  iapply (show (bigSep Finset.univ fun ck : Dev nD × Option Chan => (cellInv ER (sched xs) (K ck) (cellAt ck) : sProp 𝕄))
    ⊢ cellInv ER (sched xs) (K ck) (cellAt ck) from bigSep_elim (Finset.mem_univ ck))
  iexact H
theorem reached_at (ck : Dev nD × Option Chan) : known xs K ⊢ reached ER (cellAt ck) 0 := by
  unfold known records
  iintro ⟨⟨-, #H⟩, -⟩
  iapply (show (bigSep Finset.univ fun ck : Dev nD × Option Chan => (reached ER (cellAt ck) 0 : sProp 𝕄)) ⊢ reached ER (cellAt ck) 0
    from bigSep_elim (Finset.mem_univ ck))
  iexact H
theorem mayWait_chan (c : Dev nD) (a : Fin 4) (i : Fin 15) {O : CellTallies nD τ sig Unit} (h : Above (levelOf (some (some (a, i)))) O) :
    known xs K ⊢ MayWait (c : Thread nD τ) (chanSem (a, i)) () O := by
  have h' : Above (levelOf (which (chanSem (a, i)))) O := by rw [which_chan]; exact h
  have hw := mayWait (F := F) (c := c) h'
  unfold known
  iintro ⟨-, #H⟩
  iapply hw
  iexact H
theorem mayWait_bar (c : Dev nD) {O : CellTallies nD τ sig Unit} (h : Above 1 O) :
    known xs K ⊢ MayWait (c : Thread nD τ) (.reg barS) () O := by
  have h' : Above (levelOf (which (.reg barS))) O := by rw [which_bar]; exact h
  have hw := mayWait (F := F) (c := c) h'
  unfold known
  iintro ⟨-, #H⟩
  iapply hw
  iexact H

/-- What device `c` owes, whatever waits it has made. -/
def owing (c : Dev nD) (O : CellTallies nD τ sig Unit) : sProp 𝕄 := iprop(∃ W, owes (c : Thread nD τ) O W)

/-! ## The signal -/

/-- What a device spends to signal the peer at a distance: its token there, and the two places that peer will write. -/
def sigNeeds (c : Dev nD) (i : Fin 15) : sProp 𝕄 :=
  iprop(dutyTok ER (barCell (peer c i)) 0 (Fin.rev i) ∗ (∃ f, bPart c (Fin.rev i).succ f) ∗ ∃ f, oPart c (peer c i) fullShare f)

theorem step_signal (c : Dev nD) (O : CellTallies nD τ sig Unit) {Q : PUnit → sProp 𝕄} (i : Fin 15) (l : List (Fin 15))
    (k : Prog (Op F) PUnit) :
    iprop(known xs K ∗ sigNeeds c i ∗ owing c (over (i :: l) (owedBar c) + O))
      ⊢ iprop(((emp ∗ owing c (over l (owedBar c) + O)) -∗ wpOn c k Q) -∗ wpOn c (.op (opSignal c i) fun _ => k) Q) := by
  unfold opSignal sigNeeds owing
  rw [sigDev_eq, over_cons]
  iintro ⟨#HC, ⟨Ht, Hb, Ho⟩, ⟨%W, HO⟩⟩ Hk
  iapply (Rounds.wp_signal 𝒱₀ ER (sched xs) (c : Thread nD τ) none (dst := (peer c i : Thread nD τ)) (κ := K (peer c i, none))
    (d := Fin.rev i) (by rw [duties_bar]; exact Finset.mem_univ _) ((amount_bar xs (peer c i) _).trans (by decide)) ()
    (over l (owedBar c) + O) rfl) $$ [HO Ht Hb Ho]
  · isplitr; · iapply (inv_at xs K (peer c i, none)); iexact HC
    isplitl [HO]; · iexact HO
    isplitl [Ht]; · iexact Ht
    isplitl [Hb Ho]
    · rw [payload_bar]; unfold barPay; rw [peer_rev]
      isplitl [Hb] <;> iassumption
    iapply (reached_at xs K (peer c i, none)); iexact HC
  iintro HO
  iapply Hk
  isplitr; · iempintro
  iexists W; iexact HO

/-! ## The waits -/

/-- What a wait on a channel of its own spends. -/
def waitNeeds (c : Dev nD) (a : Fin 4) (i : Fin 15) : sProp 𝕄 :=
  iprop(cred (tallyAt (chanCell c a i) () N) ∗ atPos ER (chanCell c a i) 0 ∅ 0)
/-- What it brings: what the channel hands over, and the semaphore back at zero. -/
def waitGives (c : Dev nD) (a : Fin 4) (i : Fin 15) : sProp 𝕄 :=
  iprop(chanPay xs c i a ∗ semVal (chanCell c a i) 0)

theorem step_wait (c : Dev nD) (a : Fin 4) {O : CellTallies nD τ sig Unit} (hO : ∀ i : Fin 15, Above (levelOf (some (some (a, i)))) O)
    {Q : PUnit → sProp 𝕄} (i : Fin 15) {w : Op F PUnit}
    (hw : ∀ Kt : PUnit → sProp 𝕄, wpE (defs₀ (F := F)) 𝒱₀ (c : Thread nD τ) none Set.univ w Kt
      = waitSpec (c : Thread nD τ) Set.univ (chanSem (a, i)) N Kt) (k : Prog (Op F) PUnit) :
    iprop(known xs K ∗ waitNeeds c a i ∗ owing c O)
      ⊢ iprop(((waitGives xs c a i ∗ owing c O) -∗ wpOn c k Q) -∗ wpOn c (.op w fun _ => k) Q) := by
  unfold waitNeeds waitGives owing
  iintro ⟨#HC, ⟨Hcr, Hat⟩, ⟨%W, HO⟩⟩ Hk
  iapply (Rounds.wp_wait_rest_token 𝒱₀ ER (sched xs) (c : Thread nD τ) none (κ := K (c, some (a, i))) hw (Set.mem_univ _) ()
    (O := O) (W := W) (R := 0) (m := 0) (T := ∅) (by rw [Nat.zero_add, expect_chan])) $$ [Hcr HO Hat]
  · isplitr; · iapply (inv_at xs K (c, some (a, i))); iexact HC
    isplitl [Hcr]; · iexact Hcr
    isplitl [HO]; · iexact HO
    isplitr
    · iapply (mayWait_chan xs K c a i (hO i))
      iexact HC
    iexact Hat
  iintro ⟨HO, Hat, -, Hpay⟩
  ihave Hp := (Entails.of_eq (rest_chan xs c a i)) $$ Hpay
  imod (Rounds.cell_close ER (sched xs) (Set.mem_univ (K (c, some (a, i)))) (fun h => h) (R := 0 + 1)
    (duties_later xs (chanCell c a i))) $$ [Hat] with Hz
  · isplitr; · iapply (inv_at xs K (c, some (a, i))); iexact HC
    iexact Hat
  iapply Hk
  isplitl [Hp Hz]
  · isplitl [Hp]; · iexact Hp
    iexact Hz
  iexists _; iexact HO

/-- The wait on the barrier: every peer's two places. -/
theorem wait_bar (c : Dev nD) {O : CellTallies nD τ sig Unit} (hO : Above 1 O) {Q : PUnit → sProp 𝕄} (k : Prog (Op F) PUnit) :
    iprop(known xs K ∗ (cred (tallyAt (barCell c) () 15) ∗ atPos ER (barCell c) 0 ∅ 0) ∗ owing c O)
      ⊢ iprop((((bigSep Finset.univ fun j : Fin 15 => barPay c j) ∗ semVal (barCell c) 0 ∗ owing c O) -∗ wpOn c k Q)
        -∗ wpOn c (.op (.semWait barS (BitVec.toInt 15#32)) fun _ => k) Q) := by
  unfold owing
  iintro ⟨#HC, ⟨Hcr, Hat⟩, ⟨%W, HO⟩⟩ Hk
  iapply (Rounds.wp_wait_rest_token 𝒱₀ ER (sched xs) (c : Thread nD τ) none (κ := K (c, none))
    (wpE_semWait_eq 𝒱₀ (c : Thread nD τ) none Set.univ) (Set.mem_univ _) ()
    (O := O) (W := W) (R := 0) (m := 0) (T := ∅) (by rw [expect_bar]; decide)) $$ [Hcr HO Hat]
  · isplitr; · iapply (inv_at xs K (c, none)); iexact HC
    isplitl [Hcr]; · iexact Hcr
    isplitl [HO]; · iexact HO
    isplitr
    · iapply (mayWait_bar xs K c hO)
      iexact HC
    iexact Hat
  iintro ⟨HO, Hat, -, Hpay⟩
  ihave Hp := (Entails.of_eq (rest_bar xs c)) $$ Hpay
  imod (Rounds.cell_close ER (sched xs) (Set.mem_univ (K (c, none))) (fun h => h) (R := 0 + 1)
    (duties_later xs (barCell c))) $$ [Hat] with Hz
  · isplitr; · iapply (inv_at xs K (c, none)); iexact HC
    iexact Hat
  iapply Hk
  isplitl [Hp]; · iexact Hp
  isplitl [Hz]; · iexact Hz
  iexists _; iexact HO

/-! ## The transfers -/

/-- The two transfers, to a named device. -/
def rsSendTo (c n : Dev nD) (i : Fin 15) : Op F PUnit :=
  .enqueueDma (xRowsM c i) (.remote (Dev.tc n : Thread nD τ) (slotM i.succ) (chanSem (0, i)))
    (chanSem (1, i)) (View.wordExact_bits rfl) ((View.wordExact_bits rfl).reshape _ _) ⟨⟨rfl, Or.inl rfl⟩, trivial⟩
def agSendTo (c n : Dev nD) (i : Fin 15) : Op F PUnit :=
  .enqueueDma (oRowsM c) (.remote (Dev.tc n : Thread nD τ) (oRowsM c) (chanSem (2, i)))
    (chanSem (3, i)) (View.wordExact_bits rfl) (View.wordExact_bits rfl) ⟨⟨rfl, Or.inl rfl⟩, trivial⟩
theorem rsSend_eq (c : Dev nD) (i : Fin 15) : (opRsSend c i : Op F PUnit) = rsSendTo c (peer c i) i :=
  (show opRsSend c i = rsSendTo c (rsDev c i) i from rfl).trans (by rw [rsDev_eq])
theorem agSend_eq (c : Dev nD) (i : Fin 15) : (opAgSend c i : Op F PUnit) = agSendTo c (peer c i) i :=
  (show opAgSend c i = agSendTo c (agDev c i) i from rfl).trans (by rw [agDev_eq])

/-- What a transfer to the peer at a distance spends besides its operands: the tokens of the two channels it raises. -/
def sendToks (c : Dev nD) (a b : Fin 4) (i : Fin 15) : sProp 𝕄 :=
  iprop(dutyTok ER (chanCell c a i) 0 0 ∗ dutyTok ER (chanCell (peer c i) b i) 0 0)

def rsNeeds (c : Dev nD) (i : Fin 15) : sProp 𝕄 :=
  iprop(xPart c (peer c i) (xs c) ∗ (∃ f, bPart (peer c i) i.succ f) ∗ sendToks c 0 1 i)

/-- The first exchange's transfer at a distance. -/
theorem step_rsSend (c : Dev nD) (O : CellTallies nD τ sig Unit) {Q : PUnit → sProp 𝕄} (i : Fin 15) (l : List (Fin 15))
    (k : Prog (Op F) PUnit) :
    iprop(known xs K ∗ rsNeeds xs c i ∗ owing c (over (i :: l) (owedArr 1 c) + O))
      ⊢ iprop(((cred (tallyAt (chanCell c 0 i) () N) ∗ owing c (over l (owedArr 1 c) + O)) -∗ wpOn c k Q)
        -∗ wpOn c (.op (opRsSend c i) fun _ => k) Q) := by
  rw [rsSend_eq, over_cons]
  unfold rsSendTo rsNeeds sendToks owing
  iintro ⟨#HC, ⟨Hx, ⟨%f, Hb⟩, Ht₁, Ht₂⟩, ⟨%W, HO⟩⟩ Hk
  iapply (Rounds.wp_send_pointsTo 𝒱₀ ER (sched xs) (c : Thread nD τ) none (κ₁ := K (c, some (0, i))) (κ₂ := K (peer c i, some (1, i)))
    (r₁ := 0) (r₂ := 0) (d₁ := 0) (d₂ := 0) (q := fullShare) (fs := xs c) (fd := f)
    (by rw [duties_chan xs c 0 i]; exact Finset.mem_singleton_self _)
    (by rw [duties_chan xs (peer c i) 1 i]; exact Finset.mem_singleton_self _)
    () () N (show (slotM i.succ).view.amount (chanSem (1, i)) = N from slot_credit i.succ) (amount_chan xs c 0 i 0) (amount_chan xs (peer c i) 1 i 0) (over l (owedArr 1 c) + O) rfl (W := W)
    (by rw [payload_chan xs c 0 i, xRows_set]; exact BI.Entails.refl _)
    (by
      rw [payload_chan xs (peer c i) 1 i]
      exact Entails.of_eq (pointsTo_congr (rs_lands xs c i f)))) $$ [Hx Hb Ht₁ Ht₂ HO]
  · isplitr; · iapply (inv_at xs K (c, some (0, i))); iexact HC
    isplitr; · iapply (inv_at xs K (peer c i, some (1, i))); iexact HC
    isplitl [Hx]; · rw [xRows_set]; unfold xPart; iexact Hx
    isplitl [Hb]; · unfold bPart; iexact Hb
    isplitl [HO]; · iexact HO
    isplitl [Ht₁]; · iexact Ht₁
    isplitr; · iapply (reached_at xs K (c, some (0, i))); iexact HC
    isplitl [Ht₂]; · iexact Ht₂
    iapply (reached_at xs K (peer c i, some (1, i))); iexact HC
  iintro ⟨Hcr, HO⟩
  iapply Hk
  isplitl [Hcr]; · iexact Hcr
  iexists W; iexact HO

def agNeeds (c : Dev nD) (i : Fin 15) : sProp 𝕄 :=
  iprop(oPart c c (share i) (total xs) ∗ (∃ f, oPart (peer c i) c fullShare f) ∗ sendToks c 2 3 i)

/-- The second exchange's transfer at a distance. -/
theorem step_agSend (c : Dev nD) (O : CellTallies nD τ sig Unit) {Q : PUnit → sProp 𝕄} (i : Fin 15) (l : List (Fin 15))
    (k : Prog (Op F) PUnit) :
    iprop(known xs K ∗ agNeeds xs c i ∗ owing c (over (i :: l) (owedArr 3 c) + O))
      ⊢ iprop(((cred (tallyAt (chanCell c 2 i) () N) ∗ owing c (over l (owedArr 3 c) + O)) -∗ wpOn c k Q)
        -∗ wpOn c (.op (opAgSend c i) fun _ => k) Q) := by
  rw [agSend_eq, over_cons]
  unfold agSendTo agNeeds sendToks owing
  iintro ⟨#HC, ⟨Hx, ⟨%f, Hb⟩, Ht₁, Ht₂⟩, ⟨%W, HO⟩⟩ Hk
  iapply (Rounds.wp_send_pointsTo 𝒱₀ ER (sched xs) (c : Thread nD τ) none (κ₁ := K (c, some (2, i))) (κ₂ := K (peer c i, some (3, i)))
    (r₁ := 0) (r₂ := 0) (d₁ := 0) (d₂ := 0) (q := share i) (fs := total xs) (fd := f)
    (by rw [duties_chan xs c 2 i]; exact Finset.mem_singleton_self _)
    (by rw [duties_chan xs (peer c i) 3 i]; exact Finset.mem_singleton_self _)
    () () N (show (oRowsM c).view.amount (chanSem (3, i)) = N from oRows_credit c) (amount_chan xs c 2 i 0) (amount_chan xs (peer c i) 3 i 0) (over l (owedArr 3 c) + O) rfl (W := W)
    (by rw [payload_chan xs c 2 i, oRows_set]; exact BI.Entails.refl _)
    (by
      rw [payload_chan xs (peer c i) 3 i, oRows_set]
      unfold chanPay oPart
      rw [peer_rev]
      exact Entails.of_eq (pointsTo_congr (ag_lands c f (total xs))))) $$ [Hx Hb Ht₁ Ht₂ HO]
  · isplitr; · iapply (inv_at xs K (c, some (2, i))); iexact HC
    isplitr; · iapply (inv_at xs K (peer c i, some (3, i))); iexact HC
    isplitl [Hx]; · rw [oRows_set]; unfold oPart; iexact Hx
    isplitl [Hb]; · rw [oRows_set]; unfold oPart; iexact Hb
    isplitl [HO]; · iexact HO
    isplitl [Ht₁]; · iexact Ht₁
    isplitr; · iapply (reached_at xs K (c, some (2, i))); iexact HC
    isplitl [Ht₂]; · iexact Ht₂
    iapply (reached_at xs K (peer c i, some (3, i))); iexact HC
  iintro ⟨Hcr, HO⟩
  iapply Hk
  isplitl [Hcr]; · iexact Hcr
  iexists W; iexact HO

end Cert.KernelIdeal.AllReduce

end
-- ==== Proof.KernelIdeal.Body.lean ====
/-
# The body of one device

The phases in order, at a symbolic device `c`: `handshake` (the signals and the barrier), `scatter` (the first exchange's
transfers), `sum_rows` (the device's own contribution, the other fifteen awaited, the sum stored), `gather_rows` (the second
exchange and the waits after it). `body_runs` is the four in a row, from the buffers the pipeline stages to the result
`total` in the device's staged block, every semaphore back at zero and nothing owed.
-/
module

public import proofs.«01_k».proof.Proof.KernelIdeal.Steps

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S512x512 .f32) (K : Dev nD × Option Chan → ℕ) (c : Dev nD)

/-! ## Whole phases -/

/-- A phase whose every step pays what is owed at its distance. -/
theorem wp_paid {f : Fin 15 → Op F PUnit} {Q : PUnit → sProp 𝕄} (P R : Fin 15 → sProp 𝕄) (D : Fin 15 → CellTallies nD τ sig Unit)
    (O : CellTallies nD τ sig Unit)
    (step : ∀ i l (k : Prog (Op F) PUnit), iprop(known xs K ∗ P i ∗ owing c (over (i :: l) D + O))
      ⊢ iprop(((R i ∗ owing c (over l D + O)) -∗ wpOn c k Q) -∗ wpOn c (.op (f i) fun _ => k) Q))
    (k : Prog (Op F) PUnit) :
    iprop(known xs K ∗ bigSep Finset.univ P ∗ owing c (over dist D + O))
      ⊢ iprop(((bigSep Finset.univ R ∗ owing c O) -∗ wpOn c k Q) -∗ wpOn c (opsL f dist k) Q) := by
  have h := wp_phase c (known xs K) P R (fun l => owing c (over l D + O)) step k
  rw [over_nil] at h
  exact h

/-- The fifteen waits on a channel. -/
theorem wp_awaits (a : Fin 4) {O : CellTallies nD τ sig Unit} (hO : ∀ i : Fin 15, Above (levelOf (some (some (a, i)))) O)
    {Q : PUnit → sProp 𝕄} {w : Fin 15 → Op F PUnit}
    (hw : ∀ i (Kt : PUnit → sProp 𝕄), wpE (defs₀ (F := F)) 𝒱₀ (c : Thread nD τ) none Set.univ (w i) Kt
      = waitSpec (c : Thread nD τ) Set.univ (chanSem (a, i)) N Kt) (k : Prog (Op F) PUnit) :
    iprop(known xs K ∗ (bigSep Finset.univ fun i : Fin 15 => cred (tallyAt (chanCell c a i) () N))
        ∗ (bigSep Finset.univ fun i : Fin 15 => atPos ER (chanCell c a i) 0 ∅ 0) ∗ owing c O)
      ⊢ iprop((((bigSep Finset.univ fun i : Fin 15 => chanPay xs c i a) ∗ (bigSep Finset.univ fun i : Fin 15 => semVal (chanCell c a i) 0)
          ∗ owing c O) -∗ wpOn c k Q) -∗ wpOn c (opsL w dist k) Q) := by
  have h := wp_phase c (known xs K) (waitNeeds c a) (waitGives xs c a) (fun _ => owing c O)
    (fun i _ k => step_wait xs K c a hO i (hw i) k) k (Q := Q)
  have e₁ : (bigSep Finset.univ (waitNeeds c a) : sProp 𝕄) = iprop((bigSep Finset.univ fun i : Fin 15 => cred (tallyAt (chanCell c a i) () N))
      ∗ bigSep Finset.univ fun i : Fin 15 => atPos ER (chanCell c a i) 0 ∅ 0) := bigSep_sep' _ _ _
  have e₂ : bigSep Finset.univ (waitGives xs c a) = iprop((bigSep Finset.univ fun i : Fin 15 => chanPay xs c i a)
      ∗ bigSep Finset.univ fun i : Fin 15 => semVal (chanCell c a i) 0) := bigSep_sep' _ _ _
  rw [e₁, e₂] at h
  iintro ⟨#HC, Hcr, Hat, HO⟩ Hk
  iapply h $$ [Hcr Hat HO]
  · isplitr; · iexact HC
    isplitl [Hcr Hat]
    · isplitl [Hcr]; · iexact Hcr
      iexact Hat
    iexact HO
  iintro ⟨⟨Hp, Hz⟩, HO⟩
  iapply Hk
  isplitl [Hp]; · iexact Hp
  isplitl [Hz]; · iexact Hz
  iexact HO

/-! The waits of the four groups, as waits on their channels. -/

theorem rsRecv_wait (i : Fin 15) (Kt : PUnit → sProp 𝕄) :
    wpE (defs₀ (F := F)) 𝒱₀ (c : Thread nD τ) none Set.univ (opRsRecv c i) Kt = waitSpec (c : Thread nD τ) Set.univ (chanSem (1, i)) N Kt :=
  congrArg (fun n => waitSpec (c : Thread nD τ) Set.univ (chanSem (1, i)) n Kt) (slot_credit i.succ)
theorem agRecv_wait (i : Fin 15) (Kt : PUnit → sProp 𝕄) :
    wpE (defs₀ (F := F)) 𝒱₀ (c : Thread nD τ) none Set.univ (opAgRecv c i) Kt = waitSpec (c : Thread nD τ) Set.univ (chanSem (3, i)) N Kt :=
  congrArg (fun n => waitSpec (c : Thread nD τ) Set.univ (chanSem (3, i)) n Kt) (oRows_credit c)
theorem rsDone_wait (i : Fin 15) (Kt : PUnit → sProp 𝕄) :
    wpE (defs₀ (F := F)) 𝒱₀ (c : Thread nD τ) none Set.univ (opRsDone c i) Kt = waitSpec (c : Thread nD τ) Set.univ (chanSem (0, i)) N Kt :=
  congrArg (fun n => waitSpec (c : Thread nD τ) Set.univ (chanSem (0, i)) n Kt) (xRows_credit c i)
theorem agDone_wait (i : Fin 15) (Kt : PUnit → sProp 𝕄) :
    wpE (defs₀ (F := F)) 𝒱₀ (c : Thread nD τ) none Set.univ (opAgDone c i) Kt = waitSpec (c : Thread nD τ) Set.univ (chanSem (2, i)) N Kt :=
  congrArg (fun n => waitSpec (c : Thread nD τ) Set.univ (chanSem (2, i)) n Kt) (oRows_credit c)

/-- The signals and the barrier: the places the peers will write given away, the places on the peers taken. -/
theorem handshake {Q : PUnit → sProp 𝕄} (k : Prog (Op F) PUnit) :
    iprop(known xs K ∗ (bigSep Finset.univ fun i : Fin 15 => dutyTok ER (barCell (peer c i)) 0 (Fin.rev i))
        ∗ (bigSep Finset.univ fun i : Fin 15 => iprop(∃ f, bPart c i.succ f))
        ∗ (bigSep Finset.univ fun i : Fin 15 => iprop(∃ f, oPart c (peer c i) fullShare f))
        ∗ (cred (tallyAt (barCell c) () 15) ∗ atPos ER (barCell c) 0 ∅ 0) ∗ owing c (owed c))
      ⊢ iprop((((bigSep Finset.univ fun i : Fin 15 => iprop(∃ f, bPart (peer c i) i.succ f))
          ∗ (bigSep Finset.univ fun i : Fin 15 => iprop(∃ f, oPart (peer c i) c fullShare f))
          ∗ semVal (barCell c) 0 ∗ owing c (owed1 c)) -∗ wpOn c k Q)
        -∗ wpOn c (opsL (opSignal c) dist <| .op (.semWait barS (BitVec.toInt 15#32)) fun _ => k) Q) := by
  have e₁ : (bigSep Finset.univ (sigNeeds c) : sProp 𝕄)
      = iprop((bigSep Finset.univ fun i : Fin 15 => dutyTok ER (barCell (peer c i)) 0 (Fin.rev i))
        ∗ (bigSep Finset.univ fun i : Fin 15 => iprop(∃ f, bPart c i.succ f))
        ∗ (bigSep Finset.univ fun i : Fin 15 => iprop(∃ f, oPart c (peer c i) fullShare f))) := by
    rw [rev_dist fun i : Fin 15 => iprop(∃ f, bPart c i.succ f), ← bigSep_sep', ← bigSep_sep']; rfl
  have e₂ : (bigSep Finset.univ fun j : Fin 15 => barPay c j : sProp 𝕄)
      = iprop((bigSep Finset.univ fun i : Fin 15 => iprop(∃ f, bPart (peer c i) i.succ f))
        ∗ bigSep Finset.univ fun i : Fin 15 => iprop(∃ f, oPart (peer c i) c fullShare f)) := bigSep_sep' _ _ _
  have h := wp_paid xs K c (Q := Q) (sigNeeds c) (fun _ => iprop(emp)) (owedBar c) (owed1 c)
    (fun i l k => step_signal xs K c (owed1 c) i l k) (.op (.semWait barS (BitVec.toInt 15#32)) fun _ => k)
  have hb := wait_bar xs K c (above_owed1 c) (Q := Q) k
  rw [e₁] at h
  rw [e₂] at hb
  iintro ⟨#HC, Ht, Hb, Ho, Hw, HO⟩ Hk
  iapply h $$ [Ht Hb Ho HO]
  · isplitr; · iexact HC
    isplitl [Ht Hb Ho]
    · isplitl [Ht]; · iexact Ht
      isplitl [Hb]; · iexact Hb
      iexact Ho
    iexact HO
  iintro ⟨-, HO⟩
  iapply hb $$ [Hw HO]
  · isplitr; · iexact HC
    isplitl [Hw]; · iexact Hw
    iexact HO
  iintro ⟨⟨Hb, Ho⟩, Hz, HO⟩
  iapply Hk
  isplitl [Hb]; · iexact Hb
  isplitl [Ho]; · iexact Ho
  isplitl [Hz]; · iexact Hz
  iexact HO

/-- The first exchange's transfers. -/
theorem scatter {Q : PUnit → sProp 𝕄} (k : Prog (Op F) PUnit) :
    iprop(known xs K ∗ (bigSep Finset.univ fun i : Fin 15 => xPart c (peer c i) (xs c))
        ∗ (bigSep Finset.univ fun i : Fin 15 => iprop(∃ f, bPart (peer c i) i.succ f))
        ∗ (bigSep Finset.univ fun i : Fin 15 => sendToks c 0 1 i) ∗ owing c (owed1 c))
      ⊢ iprop((((bigSep Finset.univ fun i : Fin 15 => cred (tallyAt (chanCell c 0 i) () N)) ∗ owing c (owed2 c)) -∗ wpOn c k Q)
        -∗ wpOn c (opsL (opRsSend c) dist k) Q) := by
  have e : bigSep Finset.univ (rsNeeds xs c) = iprop((bigSep Finset.univ fun i : Fin 15 => xPart c (peer c i) (xs c))
        ∗ (bigSep Finset.univ fun i : Fin 15 => iprop(∃ f, bPart (peer c i) i.succ f))
        ∗ (bigSep Finset.univ fun i : Fin 15 => sendToks c 0 1 i)) := by
    rw [← bigSep_sep', ← bigSep_sep']; rfl
  have h := wp_paid xs K c (Q := Q) (rsNeeds xs c) (fun i => cred (tallyAt (chanCell c 0 i) () N)) (owedArr 1 c) (owed2 c)
    (fun i l k => step_rsSend xs K c (owed2 c) i l k) k
  rw [e] at h
  iintro ⟨#HC, Hx, Hb, Ht, HO⟩
  iapply h
  isplitr; · iexact HC
  isplitl [Hx Hb Ht]
  · isplitl [Hx]; · iexact Hx
    isplitl [Hb]; · iexact Hb
    iexact Ht
  iexact HO

/-! The loads and stores of the middle, on the parts they touch. -/

theorem load_x {Q : PUnit → sProp 𝕄} (f : Vec F S512x512 .f32) (k : Vec F S32x512 .f32 → Prog (Op F) PUnit) :
    xPart c c f ⊢ iprop((xPart c c f -∗ wpOn c (k (xM.view.readAt (Elt F) (rRows c).toLoadRect f)) Q)
      -∗ wpOn c (.op (.load xM (rRows c).toLoadRect (View.loadsAt_vmem h_S32x512)) k) Q) :=
  wp_load_rect 𝒱₀ (c : Thread nD τ) none Set.univ (m := xM) (r := rRows c) (S := rowSet c) (subset_of_eq (xAccess_set c))
theorem load_slot {Q : PUnit → sProp 𝕄} (f : Vec F S16x32x512 .f32) (k : Prog (Op F) PUnit) :
    bPart c 0 f ⊢ iprop((bPart c 0 f -∗ wpOn c k Q)
      -∗ wpOn c (.op (.load bM rSlot.toLoadRect (View.loadsAt_vmem h_S1x32x512)) fun _ => k) Q) :=
  wp_load_rect 𝒱₀ (c : Thread nD τ) none Set.univ (m := bM) (r := rSlot) (k := fun _ => k) (S := slotSet 0) (subset_of_eq slotAccess_set)
theorem load_out {Q : PUnit → sProp 𝕄} (f : Vec F S512x512 .f32) (k : Prog (Op F) PUnit) :
    oPart c c fullShare f ⊢ iprop((oPart c c fullShare f -∗ wpOn c k Q)
      -∗ wpOn c (.op (.load oM (rRows c).toLoadRect (View.loadsAt_vmem h_S32x512)) fun _ => k) Q) :=
  wp_load_rect 𝒱₀ (c : Thread nD τ) none Set.univ (m := oM) (r := rRows c) (k := fun _ => k) (S := rowSet c) (subset_of_eq (oAccess_set c))
theorem load_all {Q : PUnit → sProp 𝕄} (f : Vec F S16x32x512 .f32) (k : Vec F S16x32x512 .f32 → Prog (Op F) PUnit) :
    (bLoc c ↦{fullShare} f) ⊢ iprop(((bLoc c ↦{fullShare} f) -∗ wpOn c (k f) Q)
      -∗ wpOn c (.op (.load bM rAll.toLoadRect (View.loadsAt_vmem h_S16x32x512)) k) Q) := by
  iintro Hb Hk
  iapply (wp_load 𝒱₀ (c : Thread nD τ) none Set.univ (m := bM) (Finset.subset_univ _)) $$ Hb; iintro Hb
  rw [read_all]
  iapply Hk
  iexact Hb
/-- The device's own rows of `x`, stored to its first slot. -/
theorem store_slot {Q : PUnit → sProp 𝕄} (f : Vec F S16x32x512 .f32) (k : Prog (Op F) PUnit) :
    bPart c 0 f ⊢ iprop((bPart c 0 (landed xs c) -∗ wpOn c k Q)
      -∗ wpOn c (.op (.store bM rSlot (k0_pay1 (xM.view.readAt (Elt F) (rRows c).toLoadRect (xs c))) Finset.univ
        (View.stores_vmem_bits_univ h_S1x32x512 rfl) (.inl rfl)) fun _ => k) Q) := by
  have e : (bLoc c ↦[(slotSet 0 : Finset (Idx (bLoc c)))]{fullShare} ((bM.access rSlot).write (Elt F) f
      (k0_pay1 (xM.view.readAt (Elt F) (rRows c).toLoadRect (xs c))) Finset.univ) : sProp 𝕄) = bPart c 0 (landed xs c) :=
    pointsTo_congr (own_lands xs c f)
  iintro Hb Hk
  unfold bPart at *
  iapply (wp_store 𝒱₀ (c : Thread nD τ) none Set.univ (m := bM) (r := rSlot) (Mk := Finset.univ) (subset_of_eq slotAccess_set)) $$ Hb
  iintro Hb
  iapply Hk
  rw [← e]
  iexact Hb
/-- The sum of the landing buffer, stored to the device's rows of the result. -/
theorem store_out {Q : PUnit → sProp 𝕄} (g : Vec F S512x512 .f32) (k : Prog (Op F) PUnit) :
    oPart c c fullShare g ⊢ iprop((oPart c c fullShare (total xs) -∗ wpOn c k Q)
      -∗ wpOn c (.op (.store oM (rRows c) (k0_pay2 (landed xs c)) Finset.univ
        (View.stores_vmem_bits_univ h_S32x512 rfl) (.inl rfl)) fun _ => k) Q) := by
  have e : (oLoc c ↦[(rowSet c : Finset (Idx (oLoc c)))]{fullShare} ((oM.access (rRows c)).write (Elt F) g
      (k0_pay2 (landed xs c)) Finset.univ) : sProp 𝕄) = oPart c c fullShare (total xs) :=
    pointsTo_congr (sum_stored xs c g)
  iintro Ho Hk
  unfold oPart at *
  iapply (wp_store 𝒱₀ (c : Thread nD τ) none Set.univ (m := oM) (r := rRows c) (Mk := Finset.univ) (subset_of_eq (oAccess_set c))) $$ Ho
  iintro Ho
  iapply Hk
  rw [← e]
  iexact Ho

/-- The middle: the device's own rows copied to its slot, the others' rows awaited, the sum of all stored to its rows of
    the result. -/
theorem sum_rows {Q : PUnit → sProp 𝕄} (f0 : Vec F S16x32x512 .f32) (g : Vec F S512x512 .f32) :
    iprop(known xs K ∗ xPart c c (xs c) ∗ bPart c 0 f0 ∗ oPart c c fullShare g
        ∗ (bigSep Finset.univ fun i : Fin 15 => cred (tallyAt (chanCell c 1 i) () N))
        ∗ (bigSep Finset.univ fun i : Fin 15 => atPos ER (chanCell c 1 i) 0 ∅ 0) ∗ owing c (owed2 c))
      ⊢ iprop(((xPart c c (xs c) ∗ (bLoc c ↦{fullShare} landed xs c) ∗ oPart c c fullShare (total xs)
          ∗ (bigSep Finset.univ fun i : Fin 15 => semVal (chanCell c 1 i) 0) ∗ owing c (owed2 c)) -∗ wpOn c (gather c) Q)
        -∗ wpOn c (reduce c) Q) := by
  have h := wp_awaits xs K c 1 (O := owed2 c) (fun i => above_owed2 c) (Q := Q) (w := opRsRecv c) (rsRecv_wait c)
  have hb : (iprop(bPart c 0 (landed xs c) ∗ bigSep Finset.univ fun i : Fin 15 => chanPay xs c i 1) : sProp 𝕄)
      ⊢ bLoc c ↦{fullShare} landed xs c := Entails.of_eq (b_parts c (landed xs c)).symm
  unfold reduce
  iintro ⟨#HC, Hx, Hb, Ho, Hcr, Hat, HO⟩ Hk
  iapply (load_x c (xs c) _) $$ Hx; iintro Hx
  iapply (load_slot c f0 _) $$ Hb; iintro Hb
  iapply (store_slot xs c f0 _) $$ Hb; iintro Hb
  iapply (h _) $$ [Hcr Hat HO]
  · isplitr; · iexact HC
    isplitl [Hcr]; · iexact Hcr
    isplitl [Hat]; · iexact Hat
    iexact HO
  iintro ⟨Hp, Hz, HO⟩
  ihave Hb := hb $$ [Hb Hp]
  · isplitl [Hb]; · iexact Hb
    iexact Hp
  iapply (load_all c (landed xs c) _) $$ Hb; iintro Hb
  iapply (load_out c g _) $$ Ho; iintro Ho
  iapply (store_out xs c g _) $$ Ho; iintro Ho
  iapply Hk
  isplitl [Hx]; · iexact Hx
  isplitl [Hb]; · iexact Hb
  isplitl [Ho]; · iexact Ho
  isplitl [Hz]; · iexact Hz
  iexact HO

/-- The end: the device's rows sent to its peers, theirs received, and every transfer's completion awaited. -/
theorem gather_rows {Q : PUnit → sProp 𝕄} :
    iprop(known xs K ∗ oPart c c fullShare (total xs) ∗ (bigSep Finset.univ fun i : Fin 15 => iprop(∃ f, oPart (peer c i) c fullShare f))
        ∗ (bigSep Finset.univ fun i : Fin 15 => sendToks c 2 3 i)
        ∗ (bigSep Finset.univ fun i : Fin 15 => cred (tallyAt (chanCell c 3 i) () N))
        ∗ (bigSep Finset.univ fun i : Fin 15 => cred (tallyAt (chanCell c 0 i) () N))
        ∗ (bigSep Finset.univ fun i : Fin 15 => atPos ER (chanCell c 3 i) 0 ∅ 0)
        ∗ (bigSep Finset.univ fun i : Fin 15 => atPos ER (chanCell c 0 i) 0 ∅ 0)
        ∗ (bigSep Finset.univ fun i : Fin 15 => atPos ER (chanCell c 2 i) 0 ∅ 0)
        ∗ owing c (owed2 c))
      ⊢ iprop((((bigSep Finset.univ fun i : Fin 15 => xPart c (peer c i) (xs c)) ∗ (oLoc c ↦{fullShare} total xs)
          ∗ (bigSep Finset.univ fun i : Fin 15 => semVal (chanCell c 3 i) 0)
          ∗ (bigSep Finset.univ fun i : Fin 15 => semVal (chanCell c 0 i) 0)
          ∗ (bigSep Finset.univ fun i : Fin 15 => semVal (chanCell c 2 i) 0) ∗ owing c 0) -∗ Q ⟨⟩)
        -∗ wpOn c (gather c) Q) := by
  have e : (bigSep Finset.univ (agNeeds xs c) : sProp 𝕄) = iprop(oPart c c fullShare (total xs)
        ∗ (bigSep Finset.univ fun i : Fin 15 => iprop(∃ f, oPart (peer c i) c fullShare f))
        ∗ (bigSep Finset.univ fun i : Fin 15 => sendToks c 2 3 i)) := by
    rw [o_shares c (total xs), ← bigSep_sep', ← bigSep_sep']; rfl
  have h := wp_paid xs K c (Q := Q) (agNeeds xs c) (fun i => cred (tallyAt (chanCell c 2 i) () N)) (owedArr 3 c) 0
    (fun i l k => step_agSend xs K c 0 i l k)
  rw [e, add_zero] at h
  have h3 := wp_awaits xs K c 3 (O := 0) (fun i => above_zero _) (Q := Q) (w := opAgRecv c) (agRecv_wait c)
  have h0 := wp_awaits xs K c 0 (O := 0) (fun i => above_zero _) (Q := Q) (w := opRsDone c) (rsDone_wait c)
  have h2 := wp_awaits xs K c 2 (O := 0) (fun i => above_zero _) (Q := Q) (w := opAgDone c) (agDone_wait c)
  have ho : (iprop((bigSep Finset.univ fun i : Fin 15 => chanPay xs c i 2) ∗ bigSep Finset.univ fun i : Fin 15 => chanPay xs c i 3) : sProp 𝕄)
      ⊢ oLoc c ↦{fullShare} total xs :=
    Entails.of_eq (by rw [o_parts c (total xs), o_shares c (total xs), o_peers_rev]; rfl)
  unfold gather
  iintro ⟨#HC, Ho, Hp, Ht, Hc3, Hc0, Ha3, Ha0, Ha2, HO⟩ Hk
  iapply (h _) $$ [Ho Hp Ht HO]
  · isplitr; · iexact HC
    isplitl [Ho Hp Ht]
    · isplitl [Ho]; · iexact Ho
      isplitl [Hp]; · iexact Hp
      iexact Ht
    iexact HO
  iintro ⟨Hc2, HO⟩
  iapply (h3 _) $$ [Hc3 Ha3 HO]
  · isplitr; · iexact HC
    isplitl [Hc3]; · iexact Hc3
    isplitl [Ha3]; · iexact Ha3
    iexact HO
  iintro ⟨Hp3, Hz3, HO⟩
  iapply (h0 _) $$ [Hc0 Ha0 HO]
  · isplitr; · iexact HC
    isplitl [Hc0]; · iexact Hc0
    isplitl [Ha0]; · iexact Ha0
    iexact HO
  iintro ⟨Hp0, Hz0, HO⟩
  iapply (h2 _) $$ [Hc2 Ha2 HO]
  · isplitr; · iexact HC
    isplitl [Hc2]; · iexact Hc2
    isplitl [Ha2]; · iexact Ha2
    iexact HO
  iintro ⟨Hp2, Hz2, HO⟩
  unfold wpOn
  rw [wp_ret]; imodintro
  iapply Hk
  isplitl [Hp0]; · iexact Hp0
  isplitl [Hp2 Hp3]
  · iapply ho
    isplitl [Hp2]; · iexact Hp2
    iexact Hp3
  isplitl [Hz3]; · iexact Hz3
  isplitl [Hz0]; · iexact Hz0
  isplitl [Hz2]; · iexact Hz2
  iexact HO

/-! ## The body -/

/-- Something for each of the four channels, one after another. -/
theorem four_chans (Φ : Chan → sProp 𝕄) : bigSep Finset.univ Φ
    = iprop((bigSep Finset.univ fun i : Fin 15 => Φ (0, i)) ∗ (bigSep Finset.univ fun i : Fin 15 => Φ (1, i))
      ∗ (bigSep Finset.univ fun i : Fin 15 => Φ (2, i)) ∗ bigSep Finset.univ fun i : Fin 15 => Φ (3, i)) := by
  rw [bigSep_univ_prod, bigSep_univ_eq_bigSepL [0, 1, 2, 3] (by decide) (by decide)]; rfl

/-- The tokens of what device `c` pays. -/
def payToks : sProp 𝕄 :=
  iprop((bigSep Finset.univ fun i : Fin 15 => dutyTok ER (barCell (peer c i)) 0 (Fin.rev i))
    ∗ (bigSep Finset.univ fun i : Fin 15 => sendToks c 0 1 i) ∗ bigSep Finset.univ fun i : Fin 15 => sendToks c 2 3 i)
/-- Its places in its own cells' rounds, -/
def places : sProp 𝕄 := iprop(atPos ER (barCell c) 0 ∅ 0 ∗ bigSep Finset.univ fun k : Chan => atPos ER (chanCell c k.1 k.2) 0 ∅ 0)
/-- the credit of what the others owe it, -/
def credits : sProp 𝕄 :=
  iprop(cred (tallyAt (barCell c) () 15) ∗ (bigSep Finset.univ fun i : Fin 15 => cred (tallyAt (chanCell c 1 i) () N))
    ∗ bigSep Finset.univ fun i : Fin 15 => cred (tallyAt (chanCell c 3 i) () N))
/-- and its semaphores, at zero. -/
def zeros : sProp 𝕄 := iprop(semVal (barCell c) 0 ∗ bigSep Finset.univ fun k : Chan => semVal (chanCell c k.1 k.2) 0)

theorem bPart_some (c : Dev nD) (f : Vec F S16x32x512 .f32) :
    (bigSep Finset.univ fun i : Fin 15 => bPart c i.succ f : sProp 𝕄) ⊢ bigSep Finset.univ fun i : Fin 15 => iprop(∃ f, bPart c i.succ f) :=
  bigSep_mono fun i _ => show bPart c i.succ f ⊢ iprop(∃ f, bPart c i.succ f) from by iintro H; iexists f; iexact H
theorem oPart_some (c : Dev nD) (f : Vec F S512x512 .f32) :
    (bigSep Finset.univ fun i : Fin 15 => oPart c (peer c i) fullShare f : sProp 𝕄)
      ⊢ bigSep Finset.univ fun i : Fin 15 => iprop(∃ f, oPart c (peer c i) fullShare f) :=
  bigSep_mono fun i _ => show oPart c (peer c i) fullShare f ⊢ iprop(∃ f, oPart c (peer c i) fullShare f) from by
    iintro H; iexists f; iexact H

/-- The body on device `c`: from its staged block of `x`, to the result. -/
theorem body_runs {Q : PUnit → sProp 𝕄} (f0 : Vec F S16x32x512 .f32) (g : Vec F S512x512 .f32) :
    iprop(known xs K ∗ payToks c ∗ places c ∗ credits c ∗ (xLoc c ↦{fullShare} xs c) ∗ (bLoc c ↦{fullShare} f0) ∗ (oLoc c ↦{fullShare} g)
        ∗ owing c (owed c))
      ⊢ iprop((((xLoc c ↦{fullShare} xs c) ∗ (bLoc c ↦{fullShare} landed xs c) ∗ (oLoc c ↦{fullShare} total xs) ∗ zeros c ∗ owing c 0)
          -∗ Q ⟨⟩) -∗ wpOn c (bodyOn c) Q) := by
  unfold payToks places credits zeros bodyOn
  rw [four_chans, four_chans, x_parts c (xs c), b_parts c f0, o_parts c g]
  iintro ⟨#HC, ⟨Ht1, Ht2, Ht3⟩, ⟨Hab, Ha0, Ha1, Ha2, Ha3⟩, ⟨Hcb, Hc1, Hc3⟩, ⟨Hx, Hxs⟩, ⟨Hb, Hbs⟩, ⟨Ho, Hos⟩, HO⟩ Hk
  ihave Hbs := (bPart_some c f0) $$ Hbs
  ihave Hos := (oPart_some c g) $$ Hos
  iapply (handshake xs K c _) $$ [Ht1 Hbs Hos Hcb Hab HO]
  · isplitr; · iexact HC
    isplitl [Ht1]; · iexact Ht1
    isplitl [Hbs]; · iexact Hbs
    isplitl [Hos]; · iexact Hos
    isplitl [Hcb Hab]
    · isplitl [Hcb]; · iexact Hcb
      iexact Hab
    iexact HO
  iintro ⟨Hbs, Hos, Hzb, HO⟩
  iapply (scatter xs K c _) $$ [Hxs Hbs Ht2 HO]
  · isplitr; · iexact HC
    isplitl [Hxs]; · iexact Hxs
    isplitl [Hbs]; · iexact Hbs
    isplitl [Ht2]; · iexact Ht2
    iexact HO
  iintro ⟨Hc0, HO⟩
  iapply (sum_rows xs K c f0 g) $$ [Hx Hb Ho Hc1 Ha1 HO]
  · isplitr; · iexact HC
    isplitl [Hx]; · iexact Hx
    isplitl [Hb]; · iexact Hb
    isplitl [Ho]; · iexact Ho
    isplitl [Hc1]; · iexact Hc1
    isplitl [Ha1]; · iexact Ha1
    iexact HO
  iintro ⟨Hx, Hb, Ho, Hz1, HO⟩
  iapply (gather_rows xs K c) $$ [Ho Hos Ht3 Hc3 Hc0 Ha3 Ha0 Ha2 HO]
  · isplitr; · iexact HC
    isplitl [Ho]; · iexact Ho
    isplitl [Hos]; · iexact Hos
    isplitl [Ht3]; · iexact Ht3
    isplitl [Hc3]; · iexact Hc3
    isplitl [Hc0]; · iexact Hc0
    isplitl [Ha3]; · iexact Ha3
    isplitl [Ha0]; · iexact Ha0
    isplitl [Ha2]; · iexact Ha2
    iexact HO
  iintro ⟨Hxs, Ho, Hz3, Hz0, Hz2, HO⟩
  iapply Hk
  isplitl [Hx Hxs]
  · isplitl [Hx]; · iexact Hx
    iexact Hxs
  isplitl [Hb]; · iexact Hb
  isplitl [Ho]; · iexact Ho
  isplitl [Hzb Hz0 Hz1 Hz2 Hz3]
  · isplitl [Hzb]; · iexact Hzb
    isplitl [Hz0]; · iexact Hz0
    isplitl [Hz1]; · iexact Hz1
    isplitl [Hz2]; · iexact Hz2
    iexact Hz3
  iexact HO

end Cert.KernelIdeal.AllReduce

end
-- ==== Proof.KernelIdeal.Setup.lean ====
/-
# Setting up the cells at launch

The launch mints each cell's one round and the tokens of its duties, cell by cell. Here the cells' invariants are made from
them and from the semaphores at zero (`set_up`), each token is dealt to the device that pays the duty (`deal`), and the
launch credit is sorted into what each device waits for (`credits_intro`).
-/
module

public import proofs.«01_k».proof.Proof.KernelIdeal.Body

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Dev nD → Vec F S512x512 .f32)

/-! ## The cells and their tokens -/

/-- Something for the barrier and something for each channel is something for each of the kernel's semaphores. -/
theorem each_sem (Φ : Option Chan → sProp 𝕄) :
    bigSep Finset.univ Φ = iprop(Φ none ∗ bigSep Finset.univ fun k : Chan => Φ (some k)) := by
  rw [bigSep_univ_equiv (Equiv.optionEquivSumPUnit.{0} Chan).symm Φ, BI.bigSep_univ_sum,
    show (Finset.univ : Finset PUnit.{1}) = {PUnit.unit} from rfl, bigSep_singleton]
  exact BI.Entails.antisymm sep_comm sep_comm

/-- A token: a duty of the barrier, or a channel's one duty. -/
abbrev Tok : Type := Fin 15 ⊕ Chan
abbrev tokOf : Dev nD × Tok → GSem nD τ sig × ℕ × Fin 15
  | (c, .inl j) => (barCell c, 0, j)
  | (c, .inr k) => (chanCell c k.1 k.2, 0, 0)

theorem tokOf_inj : Function.Injective tokOf := by
  have cell {c c' : Dev nD} {k k' : Option Chan} {j j' : Fin 15} (h : (cellAt (c, k), 0, j) = (cellAt (c', k'), (0 : ℕ), j')) :
      (c, k) = (c', k') ∧ j = j' := ⟨cellAt_inj (congrArg Prod.fst h), congrArg (fun x => x.2.2) h⟩
  rintro ⟨c, j | k⟩ ⟨c', j' | k'⟩ h
  · obtain ⟨h1, rfl⟩ := cell (k := none) (k' := none) h
    rw [show c = c' from (Prod.ext_iff.mp h1).1]
  · exact nomatch (cell (k := none) (k' := some k') h).1
  · exact nomatch (cell (k := some k) (k' := none) h).1
  · obtain ⟨h1, -⟩ := cell (k := some k) (k' := some k') h
    obtain ⟨rfl, h2⟩ := Prod.ext_iff.mp h1
    rw [Option.some.inj h2]

def cells : Finset (GSem nD τ sig) := Finset.univ.map ⟨cellAt, cellAt_inj⟩
def tokens : Finset (GSem nD τ sig × ℕ × Fin 15) := Finset.univ.map ⟨tokOf, tokOf_inj⟩

/-- The launch's ghost state: the pipeline's and the kernel's, every round at its start. -/
def u₀ : UU := (initOf (Pipeline.cells cfgs cellOf_inj) (Pipeline.launchToks cfgs cellOf_inj), initOf cells tokens)

/-- The tokens of a device's own cells. -/
def ownToks (c : Dev nD) : sProp 𝕄 :=
  iprop((bigSep Finset.univ fun j : Fin 15 => dutyTok ER (barCell c) 0 j)
    ∗ bigSep Finset.univ fun k : Chan => dutyTok ER (chanCell c k.1 k.2) 0 0)

/-- What the launch gives device `c`. -/
def minted (c : Dev nD) : sProp 𝕄 :=
  iprop((bigSep Finset.univ fun k : Option Chan => roundState ER (sched xs) (cellAt (c, k)) 0)
    ∗ (bigSep Finset.univ fun k : Option Chan => iprop(atPos ER (cellAt (c, k)) 0 ∅ 0 ∗ reached ER (cellAt (c, k)) 0)) ∗ ownToks c)

/-- What it makes of that with the others. -/
def ready (c : Dev nD) : sProp 𝕄 := iprop(∃ K, records xs K ∗ payToks c ∗ places c)

theorem mint : BI.own (ER (initOf cells tokens)) ⊢ (|==> bigSep Finset.univ (minted xs) : sProp 𝕄) := by
  have hc (Φ : GSem nD τ sig → sProp 𝕄) :
      bigSep cells Φ = bigSep Finset.univ fun c : Dev nD => bigSep Finset.univ fun k : Option Chan => Φ (cellAt (c, k)) := by
    unfold cells; rw [bigSep_map, bigSep_univ_prod]; rfl
  have ht : bigSep tokens (fun x => (dutyTok ER x.1 x.2.1 x.2.2 : sProp 𝕄)) = bigSep Finset.univ fun c : Dev nD => ownToks c := by
    unfold tokens; rw [bigSep_map, bigSep_univ_prod]
    exact bigSep_congr fun c _ => by unfold ownToks; rw [BI.bigSep_univ_sum]; rfl
  iintro H
  imod (Rounds.fund ER (sched xs) cells tokens) $$ H with ⟨Hst, Hr, Hat, Htok⟩
  imodintro
  ihave Hst := (Entails.of_eq (hc fun g => roundState ER (sched xs) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold minted; simp only [bigSep_sep']
  isplitl [Hst]; · iexact Hst
  isplitl [Hat Hr]
  · isplitl [Hat] <;> iassumption
  iexact Htok

/-! ## Dealing the tokens -/

/-- Something for each device at each distance, handed to the device at that distance. -/
theorem deal (Φ : Fin 15 → Dev nD → sProp 𝕄) :
    (bigSep Finset.univ fun c : Dev nD => bigSep Finset.univ fun i : Fin 15 => Φ i c)
      = bigSep Finset.univ fun c : Dev nD => bigSep Finset.univ fun i : Fin 15 => Φ i (peer c i) := by
  rw [Pipeline.bigSep_univ_comm fun c i => Φ i c, Pipeline.bigSep_univ_comm fun c i => Φ i (peer c i)]
  exact bigSep_congr fun i _ => bigSep_univ_equiv (peerE i) (Φ i)

/-- The two tokens of each transfer, dealt. -/
theorem deal_sends (a b : Fin 4) :
    iprop((bigSep Finset.univ fun c : Dev nD => bigSep Finset.univ fun i : Fin 15 => (dutyTok ER (chanCell c a i) 0 0 : sProp 𝕄))
        ∗ bigSep Finset.univ fun c : Dev nD => bigSep Finset.univ fun i : Fin 15 => (dutyTok ER (chanCell c b i) 0 0 : sProp 𝕄))
      = bigSep Finset.univ fun c : Dev nD => bigSep Finset.univ fun i : Fin 15 => sendToks c a b i := by
  rw [deal fun i c => dutyTok ER (chanCell c b i) 0 0, ← bigSep_sep']
  exact bigSep_congr fun c _ => (bigSep_sep' _ _ _).symm

theorem deal_bars :
    (bigSep Finset.univ fun c : Dev nD => bigSep Finset.univ fun j : Fin 15 => (dutyTok ER (barCell c) 0 j : sProp 𝕄))
      = bigSep Finset.univ fun c : Dev nD => bigSep Finset.univ fun i : Fin 15 => dutyTok ER (barCell (peer c i)) 0 (Fin.rev i) := by
  rw [← deal fun i c => dutyTok ER (barCell c) 0 (Fin.rev i)]
  exact bigSep_congr fun c _ => rev_dist fun j => dutyTok ER (barCell c) 0 j

/-- Every device's own tokens are every device's tokens to pay with. -/
theorem deal_all : (bigSep Finset.univ fun c : Dev nD => (ownToks c : sProp 𝕄)) ⊢ bigSep Finset.univ fun c : Dev nD => payToks c := by
  unfold ownToks payToks
  rw [bigSep_congr (s := Finset.univ) fun (c : Dev nD) _ => congrArg
    (fun P => iprop((bigSep Finset.univ fun j : Fin 15 => dutyTok ER (barCell c) 0 j) ∗ P)) (four_chans (F := F) fun k => dutyTok ER (chanCell c k.1 k.2) 0 0)]
  simp only [bigSep_sep' Finset.univ]
  rw [← deal_bars]
  iintro ⟨HB, H0, H1, H2, H3⟩
  isplitl [HB]; · iexact HB
  isplitl [H0 H1]
  · iapply (show _ ⊢ _ from Entails.of_eq ((deal_sends (F := F) 0 1)))
    isplitl [H0] <;> iassumption
  · iapply (show _ ⊢ _ from Entails.of_eq (deal_sends (F := F) 2 3))
    isplitl [H2] <;> iassumption

/-! ## The invariants -/

theorem unscopedSems_eq (c : Dev nD) : (unscopedSems0 c : sProp 𝕄) = semVal (barCell c) 0 := by
  unfold unscopedSems0; rw [bigSep_eq_bigSepL_of_eq [SemLoc.reg barS] (by decide) (by decide)]; rfl

/-- The kernel's own semaphores of a device, at zero. -/
abbrev ownSems (c : Dev nD) : sProp 𝕄 :=
  Pipeline.ownSems0 (Ix := Unit) (Name := ℕ) (U := UU) (Lvl := ℕ) (Val := Elt F) (τ := τ) chanSem c
theorem ownSems_eq (c : Dev nD) : (ownSems c : sProp 𝕄) = bigSep Finset.univ fun k : Chan => semVal (chanCell c k.1 k.2) 0 := rfl

/-- A device's invariants, from its semaphores at zero. -/
theorem allocate (c : Dev nD) : iprop(ownSems c ∗ unscopedSems0 c ∗ minted xs c)
    ⊢ |={Set.univ}=> iprop((bigSep Finset.univ fun k => iprop(∃ κ : ℕ, cellInv ER (sched xs) κ (cellAt (c, k))))
        ∗ (bigSep Finset.univ fun k => iprop(atPos ER (cellAt (c, k)) 0 ∅ 0 ∗ reached ER (cellAt (c, k)) 0)) ∗ ownToks c) := by
  unfold minted
  rw [ownSems_eq, unscopedSems_eq]
  iintro ⟨Hch, Hb, Hst, Hat, Htok⟩
  ihave Hv := (Entails.of_eq (each_sem (F := F) fun k => semVal (cellAt (c, k)) 0).symm) $$ [Hch Hb]
  · isplitl [Hb]; · iexact Hb
    iexact Hch
  imod (show iprop((bigSep Finset.univ fun k => semVal (cellAt (c, k)) 0) ∗ bigSep Finset.univ fun k => roundState ER (sched xs) (cellAt (c, k)) 0)
      ⊢ (|={Set.univ}=> bigSep Finset.univ fun k => iprop(∃ κ : ℕ, cellInv ER (sched xs) κ (cellAt (c, k))) : sProp 𝕄) from by
        rw [← bigSep_sep']
        exact (bigSep_mono fun k _ => (Rounds.body_intro ER (sched xs) (cellAt (c, k))).trans inv_alloc).trans (bigSep_fupd _ _))
    $$ [Hv Hst] with Hinv
  · isplitl [Hv] <;> iassumption
  imodintro
  isplitl [Hinv]; · iexact Hinv
  isplitl [Hat]; · iexact Hat
  iexact Htok

/-- What all share is given to each. -/
theorem shared {I : Type} [DecidableEq I] {S : Finset I} {R : sProp 𝕄} [BI.Persistent R] (Φ Ψ : I → sProp 𝕄)
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The devices' invariants together, and their tokens dealt. -/
theorem gather_all :
    (bigSep Finset.univ fun c : Dev nD => iprop((bigSep Finset.univ fun k => iprop(∃ κ : ℕ, cellInv ER (sched xs) κ (cellAt (c, k))))
        ∗ (bigSep Finset.univ fun k => iprop(atPos ER (cellAt (c, k)) 0 ∅ 0 ∗ reached ER (cellAt (c, k)) 0)) ∗ ownToks c) : sProp 𝕄)
      ⊢ bigSep Finset.univ (ready xs) := by
  rw [bigSep_sep', bigSep_sep', ← bigSep_univ_prod fun ck => iprop(∃ κ : ℕ, cellInv ER (sched xs) κ (cellAt ck)),
    bigSep_congr (s := Finset.univ) fun (c : Dev nD) _ => bigSep_sep' Finset.univ (fun k => (atPos ER (cellAt (c, k)) 0 ∅ 0 : sProp 𝕄))
      fun k => reached ER (cellAt (c, k)) 0,
    bigSep_sep', ← bigSep_univ_prod fun ck => (reached ER (cellAt ck) 0 : sProp 𝕄)]
  iintro ⟨HI, ⟨Hat, #HR⟩, Htok⟩
  ihave HK := (BI.bigSep_exists_pi Finset.univ fun (ck : Dev nD × Option Chan) (κ : ℕ) => (cellInv ER (sched xs) κ (cellAt ck) : sProp 𝕄)) $$ HI
  icases HK with ⟨%K, #HI⟩
  ihave Htok := (deal_all (F := F)) $$ Htok
  iapply (shared (R := records xs K) (fun c => iprop(payToks c ∗ places c)) (ready xs) fun c => show _ ⊢ ready xs c from by
    unfold ready; iintro H; iexists K; iexact H)
  isplitr
  · unfold records; isplitl; · iexact HI
    iexact HR
  rw [bigSep_sep']
  isplitl [Htok]; · iexact Htok
  iapply (show (bigSep Finset.univ fun c : Dev nD => bigSep Finset.univ fun k => (atPos ER (cellAt (c, k)) 0 ∅ 0 : sProp 𝕄))
    ⊢ bigSep Finset.univ fun c : Dev nD => places c from bigSep_mono fun c _ => Entails.of_eq (each_sem fun k => atPos ER (cellAt (c, k)) 0 ∅ 0))
  iexact Hat

/-- All devices at once: from the semaphores at zero and what was minted, every device ready. -/
theorem set_up : (bigSep Finset.univ fun c => iprop(ownSems c ∗ unscopedSems0 c ∗ minted xs c) : sProp 𝕄)
    ⊢ |={Set.univ}=> bigSep Finset.univ (ready xs) :=
  ((bigSep_mono fun c _ => allocate xs c).trans (bigSep_fupd _ _)).trans (BI.fupd_mono (gather_all xs))

/-! ## The launch credit -/

theorem tally_units (g : GSem nD τ sig) (s : Finset (Fin 15)) :
    (∑ _i ∈ s, tallyAt g () 1 : CellTallies nD τ sig Unit) = tallyAt g () s.card := by
  induction s using Finset.induction with
  | empty => rw [Finset.sum_empty, Finset.card_empty, tallyAt_zero]
  | insert i s hi ih => rw [Finset.sum_insert hi, ih, Finset.card_insert_of_notMem hi, tallyAt_add, Nat.add_comm]

/-- What all devices owe at a distance comes to one credit for each: the peer at the opposite distance owes it. -/
theorem credit_at (sm : SemLoc sig) (i : Fin 15) (n : ℕ) (c : Dev nD) :
    (Pipeline.launchCred (fun d => tallyAt ((peer d i : Thread nD τ), sm) () n) c : sProp 𝕄) ⊢ cred (tallyAt ((c : Thread nD τ), sm) () n) :=
  Pipeline.launchCred_tallyAt sm (fun d => peer d i) (fun d => peer d (Fin.rev i)) (fun d => rev_peer d i) (fun d => peer_rev d i) () n c

theorem credits_intro (c : Dev nD) : (Pipeline.launchCred owed c : sProp 𝕄) ⊢ credits c := by
  have e : owed = fun d => (∑ i, owedBar d i) + ((∑ i, owedArr 1 d i) + ∑ i, owedArr 3 d i) :=
    funext fun d => by unfold owed owed1 owed2; rw [over_dist, over_dist, over_dist]
  have bar : (bigSep Finset.univ fun i : Fin 15 => (Pipeline.launchCred (fun d => owedBar d i) c : sProp 𝕄)) ⊢ cred (tallyAt (barCell c) () 15) := by
    have h := tally_units (barCell c) Finset.univ
    rw [Finset.card_univ, Fintype.card_fin] at h
    rw [← h, Pipeline.cred_finsetSum]
    exact bigSep_mono fun i _ => credit_at _ i 1 c
  have arr (a : Fin 4) : (bigSep Finset.univ fun i : Fin 15 => (Pipeline.launchCred (fun d => owedArr a d i) c : sProp 𝕄))
      ⊢ bigSep Finset.univ fun i : Fin 15 => cred (tallyAt (chanCell c a i) () N) := bigSep_mono fun i _ => credit_at _ i N c
  rw [e, Pipeline.launchCred_add, Pipeline.launchCred_add, Pipeline.launchCred_sum, Pipeline.launchCred_sum, Pipeline.launchCred_sum]
  unfold credits
  iintro ⟨HB, H1, H3⟩
  isplitl [HB]; · iapply bar; iexact HB
  isplitl [H1]
  · iapply (arr 1); iexact H1
  · iapply (arr 3); iexact H3

end Cert.KernelIdeal.AllReduce

end
-- ==== Proof.KernelIdeal.Launch.lean ====
/-
# The kernel's run

The pipeline around the body has one point: it stages a device's whole block of `x`, runs the body and writes the whole
staged result back. `run` is the run of `main` from any memory with zero counters: every execution ends, with `total` of the
devices' arguments in every device's result, the arguments as they were and every counter at zero.
-/
module

public import proofs.«01_k».proof.Proof.KernelIdeal.Setup
public import proofs.«01_k».proof.Proof.Gen.KernelIdeal.Points
public import Idealize.ShloMosaic.Lib.Pipeline.Value
public import Idealize.ShloMosaic.Lib.Pipeline.CollectiveSegs

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is staged, and what the body leaves -/

/-- The devices' arguments. -/
def inputs (c : Dev nD) : Vec F S512x512 .f32 := m ((c : Thread nD τ).loc main_arg0)

/-- Before the body: the device is ready, and its landing buffer holds anything. -/
def before (c : Dev nD) : sProp 𝕄 :=
  iprop((ready (inputs m) c ∗ credits c ∗ levAts L lv) ∗ ∃ f, bLoc c ↦{fullShare} f)
/-- After it: every part has landed, and the semaphores are at zero. -/
def afterwards (c : Dev nD) : sProp 𝕄 := iprop((bLoc c ↦{fullShare} landed (inputs m) c) ∗ zeros c)

def dats (_ : Fin 1) (c : Dev nD) : Dat τ (Elt F) Unit ℕ UU ℕ cfg0 c where
  A w := m ((cfg0.win w).arr.view.loc (c : Thread nD τ))
  after w _ := match w with
    | ⟨0, _⟩ => inputs m c
    | ⟨1, _⟩ => total (inputs m)
  Φ t := match t with
    | ⟨0, _⟩ => before m c
    | ⟨_ + 1, _⟩ => afterwards m c
  q _ := fullShare
  owed t := match t with
    | ⟨0, _⟩ => owed c
    | ⟨_ + 1, _⟩ => 0

/-- A window's one block is its whole array. -/
theorem read_in (f : Vec F S512x512 .f32) : (win0_0.blk t0_0).view.read (Elt F) f = f := by
  have e : ∀ a, win0_0.index t0_0 a * win0_0.size a = 0 := by decide +kernel
  funext j
  refine congrArg f (funext fun a => Fin.ext ?_)
  show win0_0.index t0_0 a * win0_0.size a + 1 * (j a).val = (j a).val
  rw [e, Nat.zero_add, Nat.one_mul]
theorem read_out (f : Vec F S512x512 .f32) : (win0_1.blk t0_0).view.read (Elt F) f = f := by
  have e : ∀ a, win0_1.index t0_0 a * win0_1.size a = 0 := by decide +kernel
  funext j
  refine congrArg f (funext fun a => Fin.ext ?_)
  show win0_1.index t0_0 a * win0_1.size a + 1 * (j a).val = (j a).val
  rw [e, Nat.zero_add, Nat.one_mul]

/-- The body finds the device's argument staged. -/
theorem staged (c : Dev nD) (d) : (dats m 0 c).before (0 : Fin 2) t0_0 d = inputs m c := by
  unfold Dat.before
  rw [if_pos (fetch0_0 t0_0)]
  exact read_in (inputs m c)

/-- A whole staging buffer, held. -/
theorem owns_stage (c : Dev nD) (b : Ref sig .tc) (X : b.ty.shape.Idx → Elt F b.ty.elt) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev held (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

set_option maxRecDepth 20000 in
theorem body_obligation (c : Dev nD) : BodyObligation (dats (F := F) m 0 c) (defs₀ (F := F)) 𝒱₀ () Set.univ := fun t => by
  rw [fin_N0 t, bigSep_W0, bigSep_W0]
  simp only [owns_stage]
  show iprop(before m c ∗ (dats m 0 c).owesAt () t0_0.castSucc
      ∗ (∃ d, held c cc0_stg0_0 ((dats m 0 c).before (0 : Fin 2) t0_0 d)) ∗ (∃ d, held c cc0_stg1_0 ((dats m 0 c).before (1 : Fin 2) t0_0 d)))
    ⊢ wpOn c (cc0_body xM (Memref.isWhole_whole _) oM (Memref.isWhole_whole _) bM (Memref.isWhole_whole _)
        cc0_scratch1 cc0_scratch2 cc0_scratch3 cc0_scratch4)
      fun _ => iprop(afterwards m c ∗ (dats m 0 c).owesAt () t0_0.succ ∗ held c cc0_stg0_0 (inputs m c) ∗ held c cc0_stg1_0 (total (inputs m)))
  rw [body_eq]
  unfold before ready afterwards Dat.owesAt Pipeline.owesWithin
  rw [show (dats m 0 c).owed t0_0.castSucc = owed c from rfl, show (dats m 0 c).owed t0_0.succ = 0 from rfl]
  iintro ⟨⟨⟨⟨%K, #HR, Htok, Hpl⟩, Hcr, #Hlev⟩, %f0, Hb⟩, ⟨%W, -, HO⟩, ⟨%d, %fx, %hx, Hx⟩, %d', %g, -, Ho⟩
  rw [staged] at hx
  subst hx
  unfold wpOn
  rw [wp_deviceId]
  iapply (body_runs (inputs m) K c f0 g) $$ [Htok Hpl Hcr Hb HO Hx Ho]
  · isplitr
    · unfold known; isplitl; · iexact HR
      iexact Hlev
    isplitl [Htok]; · iexact Htok
    isplitl [Hpl]; · iexact Hpl
    isplitl [Hcr]; · iexact Hcr
    isplitl [Hx]; · iexact Hx
    isplitl [Hb]; · iexact Hb
    isplitl [Ho]; · iexact Ho
    unfold owing; iexists W; iexact HO
  unfold owing
  iintro ⟨Hx, Hb, Ho, Hz, %W', HO⟩
  isplitl [Hb Hz]
  · isplitl [Hb] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch -/

theorem sem_facts : Pipeline.OwnSemFacts cfg0.spec chanSem := by decide +kernel
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed c ∗ prngReg c (ρ c) ∗ ready (inputs m) c)
      ⊢ |={Set.univ}=> iprop((ready (inputs m) c ∗ credits c ∗ levAts L lv) ∗ emp) := by
  iintro ⟨-, Hlev, Hcr, -, HG⟩
  ihave Hc := (credits_intro (F := F) c) $$ Hcr
  imodintro
  isplitl
  · isplitl [HG]; · iexact HG
    isplitl [Hc] <;> iassumption
  · iempintro

theorem enter (c : Dev nD) :
    iprop((ready (inputs m) c ∗ credits c ∗ levAts L lv)
        ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hb⟩
  isplitl [Hs] <;> iassumption

theorem leave (c : Dev nD) :
    (dats m 0 c).Φ (Fin.last cfg0.N) ⊢ iprop(unscopedSems0 c ∗ ownSems c ∗ Pipeline.scopedRest cfg0.spec c) := by
  rw [show (dats m 0 c).Φ (Fin.last cfg0.N) = afterwards m c from rfl, scopedRest0_eq, ownSems_eq, unscopedSems_eq]
  unfold afterwards zeros
  iintro ⟨Hb, HzB, Hz⟩
  isplitl [HzB]; · iexact HzB
  isplitl [Hz]; · iexact Hz
  iexists _; iexact Hb

/-- The staging semaphores' waits: they are none of the kernel's, below everything owed. -/
theorem waits (c : Dev nD) : (levAts L lv : sProp 𝕄) ⊢ Pipeline.cellsWaits cfgs (dats m) () 0 c :=
  Pipeline.cellsWaits_intro cfgs (dats m) () 0 c fun w s t => mayWait (by
    rw [which_other (by revert w s; decide +kernel)]
    rcases t with ⟨_ | _, ht⟩
    · exact above_owed c
    · exact above_zero _)

set_option maxRecDepth 8000 in
/-- The run, with each window's array as the pipeline leaves it. -/
theorem run_arrays : θ_run defs (onTc (τ := τ) (main (F := F))) (s₀ m ρ) (fun r =>
    (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ sem_facts (Pipeline.PreFacts.none _) EP defs₀ 𝒱₀ m ρ main
    (hmain := fun _ => rfl)
    (hbody := body_obligation m) (hne := fun w => by fin_cases w <;> exact Nat.succ_pos _)
    (harr := arr_whole0) (hstage := stage_whole0) (hshare := share_eq m) (hdistinct := winFacts0.arr_inj)
    (O₀ := owed) (howed₀ := fun _ => rfl) (howedN := fun _ => rfl)
    (L := L) (lv := lv) (hL := L_of_ne) (hwaits := waits m)
    (G := minted (inputs m)) (G' := ready (inputs m)) (u₀ := u₀)
    (hu₀ := by
      unfold u₀
      iintro Hu
      ihave H := (ownU_pair _ _) $$ Hu
      icases H with ⟨HP, HX⟩
      imod (mint (inputs m)) $$ HX with HG
      imodintro
      isplitl [HP] <;> iassumption)
    (hglob := set_up (inputs m))
    (hA := fun _ _ => rfl) (hpf := fun _ k => k.elim0)
    (X := fun c => iprop(ready (inputs m) c ∗ credits c ∗ levAts L lv)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's one block covers it. -/
theorem cover (i : S512x512.Idx) : ∃ t : Fin cfg0.N, (cfg0.win 1).flush t = true ∧ i ∈ ((cfg0.win 1).blk t).view.set := by
  refine ⟨t0_0, flush0_1 _, ?_⟩
  have e : ∀ a, win0_1.index t0_0 a * win0_1.size a = 0 ∧ win0_1.xsize (grid0.coords t0_0) a = 512 := by decide +kernel
  show i ∈ ((View.whole main_v1).slice (win0_1.rect t0_0)).set
  rw [View.set_slice_whole, Rect.mem_set_unit]
  intro a
  show win0_1.index t0_0 a * win0_1.size a ≤ (i a).val
    ∧ (i a).val < win0_1.index t0_0 a * win0_1.size a + win0_1.xsize (grid0.coords t0_0) a
  rw [(e a).1, (e a).2]
  have h : ∀ a : Fin 2, (i a).val < 512 := fun a => by fin_cases a <;> exact (i _).isLt
  exact ⟨Nat.zero_le _, by rw [Nat.zero_add]; exact h a⟩

theorem result_eq (c : Dev nD) : (dats m 0 c).arrAt (1 : Fin 2) cfg0.N = total (inputs m) :=
  (dats m 0 c).arrAt_eq_of_cover 1 (total (inputs m))
    (fun t _ => by
      obtain rfl := fin_N0 t
      exact (read_out (total (inputs m))).symm) cover

/-- The run of `main`: every device's result ends at the total of the arguments, the arguments as they were, every counter
    at zero. -/
theorem run : θ_run defs (onTc (τ := τ) (main (F := F))) ⟨m, fun _ => 0, ρ⟩ (fun r =>
    (∀ c : Dev nD, r.2.mem ((c.tc : Thread nD τ).loc main_v1) = total (inputs m)
      ∧ r.2.mem ((c.tc : Thread nD τ).loc main_arg0) = m ((c.tc : Thread nD τ).loc main_arg0))
      ∧ r.2.sem = fun _ => 0) :=
  (θ_run defs _ _).mono (fun _ h => ⟨fun c => ⟨(h.1 c 1).trans (result_eq m c),
    (h.1 c 0).trans ((dats m 0 c).arrAt_in (0 : Fin 2) rfl _)⟩, h.2⟩) (run_arrays m ρ)

end Cert.KernelIdeal.AllReduce

end
-- ==== Proof.Value.lean ====
/-
# The two programs' results, as one sum

Over the extended reals the kernel's result and the reference's are the same sum, over the devices, of the devices' blocks:
the kernel adds a row's sixteen contributions starting from the device that owns the row (`total_eq`), the reference adds
the sixteen blocks of the whole array (`reference_eq`).
-/
module

public import proofs.«01_k».proof.Proof.KernelIdeal.Launch
public import proofs.«01_k».proof.Proof.Gen.ReferenceIdeal.Run
public import Idealize.ShloMosaic.Lib.Layout
public import Idealize.ShloMosaic.Lib.Pointwise
public import Idealize.ShloMosaic.Lib.IdealHost

@[expose] public section

noncomputable section

namespace Cert.Proof.AllReduce

open Cert.KernelIdeal (nD S512x512 S16x32x512 S32x512)
open Cert.KernelIdeal.AllReduce (total landed slotIn back rowIn groupOf placeOf landed_slotIn)
open Idealize.ShloMosaic

/-- The kernel's sum over the slots, at an element. -/
theorem slots_sum (v : Vec Ideal S16x32x512 .f32) (y : S32x512.Idx) :
    Cert.KernelIdeal.Gen.k0_pay2 v y = ∑ s : Fin 16, v (slotIn s y) := by
  pointwise [Cert.KernelIdeal.Gen.k0_pay2]
  refine Finset.sum_congr rfl fun s _ => congrArg v (funext fun a => ?_)
  match a with
  | 0 => rfl
  | 1 => rfl
  | 2 => rfl

theorem back_bijective : ∀ c, Function.Bijective (back c) := by decide

theorem rowIn_of (j : S512x512.Idx) : rowIn (groupOf j) (placeOf j) = j := by
  funext a; apply Fin.ext
  revert a; rw [Fin.forall_fin_two]
  exact ⟨show 32 * ((j 0).val / 32) + (j 0).val % 32 = (j 0).val from Nat.div_add_mod _ _, rfl⟩

/-- The kernel's result: the sum of the devices' blocks. -/
theorem total_eq (xs : Dev nD → Vec Ideal S512x512 .f32) (j : S512x512.Idx) : total xs j = ∑ d : Dev nD, xs d j := by
  unfold total
  rw [slots_sum, ← (back_bijective (groupOf j)).sum_comp fun d => xs d j]
  refine Finset.sum_congr rfl fun s _ => ?_
  rw [landed_slotIn, rowIn_of]

theorem tiles : Layout.Tiles S512x512 ⟨2, ![8192, 512]⟩ 0 16 := by decide

open Cert.ReferenceIdeal (S8192x512 S16x512x512 S_) in
open Cert.ReferenceIdeal.Gen in
/-- The reference's result: the sum of the whole array's blocks. -/
theorem reference_eq (x : Vec Ideal S8192x512 .f32) (j : S512x512.Idx) :
    (Host.reduceAdd (F := Ideal) (shapeCast S16x512x512 x shapeCasts_S8192x512_S16x512x512) (constant S_ .f32 0x00000000#32)
      reducesTo_S16x512x512_S512x512_d0 h_S_ : Vec Ideal S512x512 .f32) j = ∑ d : Fin 16, x (tiles.idx d j) := by
  pointwise
  refine Finset.sum_congr rfl fun d _ => congrArg x (funext fun a => ?_)
  match a with
  | 0 => rfl
  | 1 => rfl

/-- With each device's argument its block of the whole array, the kernel's result is the reference's. -/
theorem values_agree (xs : Dev nD → Vec Ideal S512x512 .f32) (x : Vec Ideal Cert.ReferenceIdeal.S8192x512 .f32)
    (h : ∀ c, xs c = Layout.block S512x512 ⟨2, ![8192, 512]⟩ 0 16 c x) :
    total xs = Host.reduceAdd (F := Ideal) (shapeCast Cert.ReferenceIdeal.S16x512x512 x Cert.ReferenceIdeal.Gen.shapeCasts_S8192x512_S16x512x512)
      (constant Cert.ReferenceIdeal.S_ .f32 0x00000000#32) Cert.ReferenceIdeal.Gen.reducesTo_S16x512x512_S512x512_d0 Cert.ReferenceIdeal.Gen.h_S_ := by
  funext j
  rw [total_eq]
  refine Eq.trans (Finset.sum_congr rfl fun d _ => ?_) (reference_eq x j).symm
  rw [h d]
  exact Layout.block_apply d x tiles j

end Cert.Proof.AllReduce

end
-- ==== Proof.lean ====
/-
# The claims

`claim` puts together the three programs' runs. Each of the two readings of the kernel runs by its own `AllReduce.run`, the
reference by its generated run. For the value, the kernel leaves `total` of the devices' arguments on every device, and over
the extended reals that is the reference's sum: both add the sixteen blocks of the whole array, block `c` being device `c`'s
argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem

/-- The kernel, over the machine's floats, runs, leaves its argument as it was and every counter at zero; -/
theorem frame_kernel : Cert.quiescent_Kernel := fun m g _ =>
  (θ_run _ _ _).mono (fun _ h => ⟨fun c => (h.1 c).2, h.2⟩) (Cert.Kernel.AllReduce.run m g)

/-- so it does over the extended reals; -/
theorem frame_kernelIdeal : Cert.quiescent_KernelIdeal := fun m g _ =>
  (θ_run _ _ _).mono (fun _ h => ⟨fun c => (h.1 c).2, h.2⟩) (Cert.KernelIdeal.AllReduce.run m g)

/-- and so does the reference, which has no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The kernel's result on every device is the reference's. -/
theorem value : Cert.algebraic_KernelIdeal_ReferenceIdeal := fun m g m' g' _ hm => ⟨_,
  (θ_run _ _ _).mono (fun _ h c => ⟨(h.1 c).1.trans (AllReduce.values_agree _ _ hm), (h.1 c).2⟩) (Cert.KernelIdeal.AllReduce.run m g),
  (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, value⟩

end Cert.Proof

end
